-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_strict_top [hPre_strict_top : Cert.Pre_strict_top.Facts] (m : (ℓ : Loc Cert.KernelIdeal.nD Cert.KernelIdeal.τ Cert.KernelIdeal.sig) → Buf (Elt Ideal) ℓ) : Prop :=
  ∀ c : Dev Cert.KernelIdeal.nD,
    (Cert.Pre_strict_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_strict_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_strict_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_strict_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_strict_top [hPre_strict_top : Cert.Pre_strict_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_strict_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_strict_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_strict_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_strict_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_strict_top [hKernelIdeal : Cert.KernelIdeal.Facts] [hPre_strict_top : Cert.Pre_strict_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_strict_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_strict_top [hReferenceIdeal : Cert.ReferenceIdeal.Facts] [hPre_strict_top : Cert.Pre_strict_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_strict_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "max_dist_sq" .f32 0x38D1B717#32 ((1 / 10000 : ℝ) : EReal)
  ∧ IdealRules.named_const.Statement Cert.KernelIdeal.κ "neg_inv_ls" .f32 0xC326AAAB#32 ((-500 / 3 : ℝ) : EReal)
  ∧ IdealRules.named_const.Statement Cert.KernelIdeal.κ "log_two" .f32 0x3F317218#32 ((Real.log 2 : ℝ) : EReal)

def algebraic_KernelIdeal_ReferenceIdeal_pre_strict_top [hKernelIdeal : Cert.KernelIdeal.Facts] [hReferenceIdeal : Cert.ReferenceIdeal.Facts] [hPre_strict_top : Cert.Pre_strict_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_strict_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v197) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_strict_top : Cert.Pre_strict_top.Facts),
    quiescent_Kernel (hKernel := hKernel)
    ∧ quiescent_KernelIdeal (hKernelIdeal := hKernelIdeal)
    ∧ quiescent_KernelIdeal_pre_strict_top (hKernelIdeal := hKernelIdeal) (hPre_strict_top := hPre_strict_top)
    ∧ quiescent_ReferenceIdeal (hReferenceIdeal := hReferenceIdeal)
    ∧ quiescent_ReferenceIdeal_pre_strict_top (hReferenceIdeal := hReferenceIdeal) (hPre_strict_top := hPre_strict_top)
    ∧ preserves_Kernel_KernelIdeal
    ∧ algebraic_KernelIdeal_ReferenceIdeal_pre_strict_top (hKernelIdeal := hKernelIdeal) (hReferenceIdeal := hReferenceIdeal) (hPre_strict_top := hPre_strict_top)
-- ==== Pre_strict_top.lean ====
abbrev S4096x16 : Shape := ⟨2, ![4096, 16]⟩
abbrev S4096x2 : Shape := ⟨2, ![4096, 2]⟩
abbrev S16 : Shape := ⟨1, ![16]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S3x64x64 : Shape := ⟨3, ![3, 64, 64]⟩
abbrev S1x16 : Shape := ⟨2, ![1, 16]⟩
abbrev S_ : Shape := ⟨0, ![]⟩
abbrev S4096x128 : Shape := ⟨2, ![4096, 128]⟩
abbrev S1x128 : Shape := ⟨2, ![1, 128]⟩
abbrev S4096x64 : Shape := ⟨2, ![4096, 64]⟩
abbrev S1x64 : Shape := ⟨2, ![1, 64]⟩
abbrev S4096x1 : Shape := ⟨2, ![4096, 1]⟩
abbrev S1x4096 : Shape := ⟨2, ![1, 4096]⟩
abbrev S4096x4096 : Shape := ⟨2, ![4096, 4096]⟩
abbrev S4096 : Shape := ⟨1, ![4096]⟩
abbrev S1x64x64 : Shape := ⟨3, ![1, 64, 64]⟩
abbrev S64x64 : Shape := ⟨2, ![64, 64]⟩
abbrev S64x4096 : Shape := ⟨2, ![64, 4096]⟩
abbrev S4096x21 : Shape := ⟨2, ![4096, 21]⟩
abbrev S4096x20 : Shape := ⟨2, ![4096, 20]⟩

class Facts : Prop where
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S16 : S_.BroadcastsInDim S16 (![] : Fin 0 → Fin S16.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S4096x2_S4096x1_0_0 : S4096x2.Slices ![0, 0] S4096x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  slices_S4096x2_S4096x1_0_1 : S4096x2.Slices ![0, 1] S4096x1
  bcast_S_S4096x4096 : S_.BroadcastsInDim S4096x4096 (![] : Fin 0 → Fin S4096x4096.rank)
  slices_S3x64x64_S1x64x64_0_0_0 : S3x64x64.Slices ![0, 0, 0] S1x64x64
  shapeCasts_S1x64x64_S64x64 : S1x64x64.ShapeCasts S64x64
  transposes_S4096x64_S64x4096_1_0 : S4096x64.Transposes [1, 0] S64x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  slices_S3x64x64_S1x64x64_1_0_0 : S3x64x64.Slices ![1, 0, 0] S1x64x64
  slices_S3x64x64_S1x64x64_2_0_0 : S3x64x64.Slices ![2, 0, 0] S1x64x64
  sliceFits_S4096x4096_S4096x21 : S4096x4096.Slices (fun _ => 0) S4096x21
  slices_S4096x21_S4096x20_0_0 : S4096x21.Slices ![0, 0] S4096x20
  slices_S4096x21_S4096x20_0_1 : S4096x21.Slices ![0, 1] S4096x20
  slices_S4096x21_S4096x1_0_20 : S4096x21.Slices ![0, 20] S4096x1
  bcast_S_S4096x1 : S_.BroadcastsInDim S4096x1 (![] : Fin 0 → Fin S4096x1.rank)
  bcast_S4096x1_S4096x20_0_1 : S4096x1.BroadcastsInDim S4096x20 (![0, 1] : Fin 2 → Fin S4096x20.rank)
  bcast_S_S4096x2 : S_.BroadcastsInDim S4096x2 (![] : Fin 0 → Fin S4096x2.rank)
  dot_S4096x16_S16x128_S4096x128_1_0_0_1_n_n_wf : DotDims.WF S4096x16 S16x128 S4096x128 [1] [0] [0] [1] [] []
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x64_S4096x64_1_0_0_1_n_n_wf : DotDims.WF S4096x64 S64x64 S4096x64 [1] [0] [0] [1] [] []
  dot_S4096x64_S64x4096_S4096x4096_1_0_0_1_n_n_wf : DotDims.WF S4096x64 S64x4096 S4096x4096 [1] [0] [0] [1] [] []

variable [Facts]

def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def fn_relu {F : FTy → Type} [FloatOps F] (arg0 : FVec F S4096x128 .f32) : FVec F S4096x128 .f32 :=
  let cst : FVec F S_ .f32 := constant S_ .f32 0x00000000#32
  let v0 : FVec F S4096x128 .f32 := broadcastInDim S4096x128 ![] bcast_S_S4096x128 cst
  let v1 : FVec F S4096x128 .f32 := maximumf arg0 v0
  v1

def fn_where {F : FTy → Type} [FloatOps F] (arg0 : IVec S4096x4096 1) (arg1 : FVec F S4096x4096 .f32) (arg2 : FVec F S_ .f32) : FVec F S4096x4096 .f32 :=
  let v0 : FVec F S_ .f32 := id arg2
  let v1 : FVec F S4096x4096 .f32 := broadcastInDim S4096x4096 ![] bcast_S_S4096x4096 v0
  let v2 : FVec F S4096x4096 .f32 := select arg0 arg1 v1
  v2

def fn_softplus {F : FTy → Type} [FloatOps F] (arg0 : FVec F S4096x4096 .f32) : FVec F S4096x4096 .f32 :=
  let cst : FVec F S_ .f32 := constant S_ .f32 0x00000000#32
  let v0 : FVec F S4096x4096 .f32 := broadcastInDim S4096x4096 ![] bcast_S_S4096x4096 cst
  let v1 : FVec F S4096x4096 .f32 := maximumf arg0 v0
  let v2 : FVec F S4096x4096 .f32 := broadcastInDim S4096x4096 ![] bcast_S_S4096x4096 cst
  let v3 : FVec F S4096x4096 .f32 := subf arg0 v2
  let v4 : IVec S4096x4096 1 := cmpf .une v3 v3
  let v5 : FVec F S4096x4096 .f32 := broadcastInDim S4096x4096 ![] bcast_S_S4096x4096 cst
  let v6 : FVec F S4096x4096 .f32 := addf arg0 v5
  let v7 : FVec F S4096x4096 .f32 := Host.absf v3
  let v8 : FVec F S4096x4096 .f32 := Host.negf v7
  let v9 : FVec F S4096x4096 .f32 := Host.exp v8
  let v10 : FVec F S4096x4096 .f32 := Host.log1p v9
  let v11 : FVec F S4096x4096 .f32 := addf v1 v10
  let v12 : FVec F S4096x4096 .f32 := select v4 v6 v11
  v12

def fn_part7 {F : FTy → Type} [FloatOps F] (main_arg1 : FVec F S4096x2 .f32) (main_v129 : FVec F S4096x4096 .f32) (main_v137 : IVec S4096x20 1) (main_v140 : IVec S4096x20 1) (main_v141 : FVec F S4096x1 .f32) (main_cst_22 : FVec F S_ .f32) : IVec S4096x2 1 × IVec S4096x20 1 × IVec S4096x20 1 × IVec S4096x20 1 :=
  let main_v142 : FVec F S4096x1 .f32 := broadcastInDim S4096x1 ![] bcast_S_S4096x1 main_cst_22
  let main_v143 : IVec S4096x1 1 := cmpf .oeq main_v141 main_v142
  let main_v144 : IVec S4096x20 1 := broadcastInDim S4096x20 ![0, 1] bcast_S4096x1_S4096x20_0_1 main_v143
  let main_v145 : IVec S4096x20 1 := ori main_v140 main_v144
  let main_values_23 : FVec F S4096x21 .f32 := (fun x => (Host.topK S4096x21 1 (FloatOps.cmpfTotal .gt) x sliceFits_S4096x4096_S4096x21).1) main_v129
  let main_indices_24 : IVec S4096x21 32 := (fun x => (Host.topK S4096x21 1 (FloatOps.cmpfTotal .gt) x sliceFits_S4096x4096_S4096x21).2) main_v129
  let main_v146 : FVec F S4096x20 .f32 := (extractStridedSlice S4096x20 ![0, 0] · slices_S4096x21_S4096x20_0_0) main_values_23
  let main_v147 : FVec F S4096x20 .f32 := (extractStridedSlice S4096x20 ![0, 1] · slices_S4096x21_S4096x20_0_1) main_values_23
  let main_v148 : IVec S4096x20 1 := cmpf .ogt main_v146 main_v147
  let main_v149 : FVec F S4096x1 .f32 := (extractStridedSlice S4096x1 ![0, 20] · slices_S4096x21_S4096x1_0_20) main_values_23
  let main_cst_25 : FVec F S_ .f32 := constant S_ .f32 0x00000000#32
  let main_v150 : FVec F S4096x1 .f32 := broadcastInDim S4096x1 ![] bcast_S_S4096x1 main_cst_25
  let main_v151 : IVec S4096x1 1 := cmpf .oeq main_v149 main_v150
  let main_v152 : IVec S4096x20 1 := broadcastInDim S4096x20 ![0, 1] bcast_S4096x1_S4096x20_0_1 main_v151
  let main_v153 : IVec S4096x20 1 := ori main_v148 main_v152
  let main_v154 : FVec F S4096x2 .f32 := subf main_arg1 main_arg1
  let main_cst_26 : FVec F S_ .f32 := constant S_ .f32 0x00000000#32
  let main_v155 : FVec F S4096x2 .f32 := broadcastInDim S4096x2 ![] bcast_S_S4096x2 main_cst_26
  let main_v156 : IVec S4096x2 1 := cmpf .oeq main_v154 main_v155
  (main_v156, main_v137, main_v145, main_v153)

def fn_part6 {F : FTy → Type} [FloatOps F] (main_arg1 : FVec F S4096x2 .f32) (main_v71 : FVec F S4096x4096 .f32) (main_v100 : FVec F S4096x4096 .f32) (main_v116 : FVec F S4096x4096 .f32) (main_v121 : FVec F S4096x4096 .f32) (main_v124 : FVec F S4096x4096 .f32) : IVec S4096x2 1 × IVec S4096x20 1 × IVec S4096x20 1 × IVec S4096x20 1 :=
  let main_cst_18 : FVec F S_ .f32 := constant S_ .f32 0x40000000#32
  let main_v125 : FVec F S4096x4096 .f32 := broadcastInDim S4096x4096 ![] bcast_S_S4096x4096 main_cst_18
  let main_v126 : FVec F S4096x4096 .f32 := Host.divf main_v124 main_v125
  let main_v127 : FVec F S4096x4096 .f32 := Host.exp main_v126
  let main_v128 : FVec F S4096x4096 .f32 := mulf main_v127 main_v121
  let main_v129 : FVec F S4096x4096 .f32 := mulf main_v128 main_v116
  let main_values : FVec F S4096x21 .f32 := (fun x => (Host.topK S4096x21 1 (FloatOps.cmpfTotal .gt) x sliceFits_S4096x4096_S4096x21).1) main_v71
  let main_indices : IVec S4096x21 32 := (fun x => (Host.topK S4096x21 1 (FloatOps.cmpfTotal .gt) x sliceFits_S4096x4096_S4096x21).2) main_v71
  let main_v130 : FVec F S4096x20 .f32 := (extractStridedSlice S4096x20 ![0, 0] · slices_S4096x21_S4096x20_0_0) main_values
  let main_v131 : FVec F S4096x20 .f32 := (extractStridedSlice S4096x20 ![0, 1] · slices_S4096x21_S4096x20_0_1) main_values
  let main_v132 : IVec S4096x20 1 := cmpf .ogt main_v130 main_v131
  let main_v133 : FVec F S4096x1 .f32 := (extractStridedSlice S4096x1 ![0, 20] · slices_S4096x21_S4096x1_0_20) main_values
  let main_cst_19 : FVec F S_ .f32 := constant S_ .f32 0x00000000#32
  let main_v134 : FVec F S4096x1 .f32 := broadcastInDim S4096x1 ![] bcast_S_S4096x1 main_cst_19
  let main_v135 : IVec S4096x1 1 := cmpf .oeq main_v133 main_v134
  let main_v136 : IVec S4096x20 1 := broadcastInDim S4096x20 ![0, 1] bcast_S4096x1_S4096x20_0_1 main_v135
  let main_v137 : IVec S4096x20 1 := ori main_v132 main_v136
  let main_values_20 : FVec F S4096x21 .f32 := (fun x => (Host.topK S4096x21 1 (FloatOps.cmpfTotal .gt) x sliceFits_S4096x4096_S4096x21).1) main_v100
  let main_indices_21 : IVec S4096x21 32 := (fun x => (Host.topK S4096x21 1 (FloatOps.cmpfTotal .gt) x sliceFits_S4096x4096_S4096x21).2) main_v100
  let main_v138 : FVec F S4096x20 .f32 := (extractStridedSlice S4096x20 ![0, 0] · slices_S4096x21_S4096x20_0_0) main_values_20
  let main_v139 : FVec F S4096x20 .f32 := (extractStridedSlice S4096x20 ![0, 1] · slices_S4096x21_S4096x20_0_1) main_values_20
  let main_v140 : IVec S4096x20 1 := cmpf .ogt main_v138 main_v139
  let main_v141 : FVec F S4096x1 .f32 := (extractStridedSlice S4096x1 ![0, 20] · slices_S4096x21_S4096x1_0_20) main_values_20
  let main_cst_22 : FVec F S_ .f32 := constant S_ .f32 0x00000000#32
  fn_part7 (F := F) main_arg1 main_v129 main_v137 main_v140 main_v141 main_cst_22

def fn_part5 {F : FTy → Type} [FloatOps F] (main_arg1 : FVec F S4096x2 .f32) (main_v37 : FVec F S4096x4096 .f32) (main_v41 : FVec F S4096x4096 .f32) (main_v42 : IVec S4096 32) (main_v71 : FVec F S4096x4096 .f32) (main_v100 : FVec F S4096x4096 .f32) (main_v105 : FVec F S4096x4096 .f32) : IVec S4096x2 1 × IVec S4096x20 1 × IVec S4096x20 1 × IVec S4096x20 1 :=
  let main_cst_13 : FVec F S_ .f32 := constant S_ .f32 0x40800000#32
  let main_v106 : FVec F S4096x4096 .f32 := broadcastInDim S4096x4096 ![] bcast_S_S4096x4096 main_cst_13
  let main_v107 : FVec F S4096x4096 .f32 := Host.divf main_v105 main_v106
  let main_v108 : FVec F S4096x4096 .f32 := Host.tanh main_v107
  let main_v109 : IVec S4096x1 32 := broadcastInDim S4096x1 ![0] bcast_S4096_S4096x1_0 main_v42
  let main_v110 : IVec S1x4096 32 := broadcastInDim S1x4096 ![1] bcast_S4096_S1x4096_1 main_v42
  let main_v111 : IVec S4096x4096 32 := broadcastInDim S4096x4096 ![0, 1] bcast_S4096x1_S4096x4096_0_1 main_v109
  let main_v112 : IVec S4096x4096 32 := broadcastInDim S4096x4096 ![0, 1] bcast_S1x4096_S4096x4096_0_1 main_v110
  let main_v113 : IVec S4096x4096 1 := cmpi .eq main_v111 main_v112
  let main_cst_14 : FVec F S_ .f32 := constant S_ .f32 0x00000000#32
  let main_v114 : FVec F S4096x4096 .f32 := fn_where (F := F) main_v113 main_v108 main_cst_14
  let main_v115 : FVec F S4096x4096 .f32 := subf main_v108 main_v114
  let main_v116 : FVec F S4096x4096 .f32 := fn_softplus (F := F) main_v115
  let main_cst_15 : FVec F S_ .f32 := constant S_ .f32 0x42C80000#32
  let main_v117 : FVec F S4096x4096 .f32 := broadcastInDim S4096x4096 ![] bcast_S_S4096x4096 main_cst_15
  let main_v118 : FVec F S4096x4096 .f32 := mulf main_v37 main_v117
  let main_cst_16 : FVec F S_ .f32 := constant S_ .f32 0x3F800000#32
  let main_v119 : FVec F S4096x4096 .f32 := broadcastInDim S4096x4096 ![] bcast_S_S4096x4096 main_cst_16
  let main_v120 : IVec S4096x4096 1 := cmpf .ole main_v118 main_v119
  let main_v121 : FVec F S4096x4096 .f32 := uitofp .f32 main_v120
  let main_v122 : FVec F S4096x4096 .f32 := Host.negf main_v41
  let main_cst_17 : FVec F S_ .f32 := constant S_ .f32 0x447A0000#32
  let main_v123 : FVec F S4096x4096 .f32 := broadcastInDim S4096x4096 ![] bcast_S_S4096x4096 main_cst_17
  let main_v124 : FVec F S4096x4096 .f32 := mulf main_v122 main_v123
  fn_part6 (F := F) main_arg1 main_v71 main_v100 main_v116 main_v121 main_v124

def fn_part4 {F : FTy → Type} [FloatOps F] (main_arg1 : FVec F S4096x2 .f32) (main_arg12 : FVec F S3x64x64 .f32) (main_v21 : FVec F S4096x64 .f32) (main_v37 : FVec F S4096x4096 .f32) (main_v41 : FVec F S4096x4096 .f32) (main_v42 : IVec S4096 32) (main_v71 : FVec F S4096x4096 .f32) (main_v79 : FVec F S4096x4096 .f32) (main_v85 : FVec F S4096x4096 .f32) : IVec S4096x2 1 × IVec S4096x20 1 × IVec S4096x20 1 × IVec S4096x20 1 :=
  let main_v86 : FVec F S4096x4096 .f32 := subf main_v79 main_v85
  let main_v87 : FVec F S4096x4096 .f32 := fn_softplus (F := F) main_v86
  let main_cst_9 : FVec F S_ .f32 := constant S_ .f32 0x42C80000#32
  let main_v88 : FVec F S4096x4096 .f32 := broadcastInDim S4096x4096 ![] bcast_S_S4096x4096 main_cst_9
  let main_v89 : FVec F S4096x4096 .f32 := mulf main_v37 main_v88
  let main_cst_10 : FVec F S_ .f32 := constant S_ .f32 0x3F800000#32
  let main_v90 : FVec F S4096x4096 .f32 := broadcastInDim S4096x4096 ![] bcast_S_S4096x4096 main_cst_10
  let main_v91 : IVec S4096x4096 1 := cmpf .ole main_v89 main_v90
  let main_v92 : FVec F S4096x4096 .f32 := uitofp .f32 main_v91
  let main_v93 : FVec F S4096x4096 .f32 := Host.negf main_v41
  let main_cst_11 : FVec F S_ .f32 := constant S_ .f32 0x447A0000#32
  let main_v94 : FVec F S4096x4096 .f32 := broadcastInDim S4096x4096 ![] bcast_S_S4096x4096 main_cst_11
  let main_v95 : FVec F S4096x4096 .f32 := mulf main_v93 main_v94
  let main_cst_12 : FVec F S_ .f32 := constant S_ .f32 0x3F800000#32
  let main_v96 : FVec F S4096x4096 .f32 := broadcastInDim S4096x4096 ![] bcast_S_S4096x4096 main_cst_12
  let main_v97 : FVec F S4096x4096 .f32 := Host.divf main_v95 main_v96
  let main_v98 : FVec F S4096x4096 .f32 := Host.exp main_v97
  let main_v99 : FVec F S4096x4096 .f32 := mulf main_v98 main_v92
  let main_v100 : FVec F S4096x4096 .f32 := mulf main_v99 main_v87
  let main_v101 : FVec F S1x64x64 .f32 := (extractStridedSlice S1x64x64 ![2, 0, 0] · slices_S3x64x64_S1x64x64_2_0_0) main_arg12
  let main_v102 : FVec F S64x64 .f32 := shapeCast S64x64 main_v101 shapeCasts_S1x64x64_S64x64
  let main_v103 : FVec F S4096x64 .f32 := (fun l r => Host.dotGeneral dot_S4096x64_S64x64_S4096x64_1_0_0_1_n_n none l r) main_v21 main_v102
  let main_v104 : FVec F S64x4096 .f32 := (transpose S64x4096 [1, 0] · transposes_S4096x64_S64x4096_1_0) main_v21
  let main_v105 : FVec F S4096x4096 .f32 := (fun l r => Host.dotGeneral dot_S4096x64_S64x4096_S4096x4096_1_0_0_1_n_n none l r) main_v103 main_v104
  fn_part5 (F := F) main_arg1 main_v37 main_v41 main_v42 main_v71 main_v100 main_v105

def fn_part3 {F : FTy → Type} [FloatOps F] (main_arg1 : FVec F S4096x2 .f32) (main_arg12 : FVec F S3x64x64 .f32) (main_v21 : FVec F S4096x64 .f32) (main_v37 : FVec F S4096x4096 .f32) (main_v41 : FVec F S4096x4096 .f32) (main_v42 : IVec S4096 32) (main_v58 : FVec F S4096x4096 .f32) (main_v63 : FVec F S4096x4096 .f32) (main_v64 : FVec F S4096x4096 .f32) (main_cst_5 : FVec F S_ .f32) : IVec S4096x2 1 × IVec S4096x20 1 × IVec S4096x20 1 × IVec S4096x20 1 :=
  let main_v65 : FVec F S4096x4096 .f32 := broadcastInDim S4096x4096 ![] bcast_S_S4096x4096 main_cst_5
  let main_v66 : FVec F S4096x4096 .f32 := mulf main_v64 main_v65
  let main_cst_6 : FVec F S_ .f32 := constant S_ .f32 0x40400000#32
  let main_v67 : FVec F S4096x4096 .f32 := broadcastInDim S4096x4096 ![] bcast_S_S4096x4096 main_cst_6
  let main_v68 : FVec F S4096x4096 .f32 := Host.divf main_v66 main_v67
  let main_v69 : FVec F S4096x4096 .f32 := Host.exp main_v68
  let main_v70 : FVec F S4096x4096 .f32 := mulf main_v69 main_v63
  let main_v71 : FVec F S4096x4096 .f32 := mulf main_v70 main_v58
  let main_v72 : FVec F S1x64x64 .f32 := (extractStridedSlice S1x64x64 ![1, 0, 0] · slices_S3x64x64_S1x64x64_1_0_0) main_arg12
  let main_v73 : FVec F S64x64 .f32 := shapeCast S64x64 main_v72 shapeCasts_S1x64x64_S64x64
  let main_v74 : FVec F S4096x64 .f32 := (fun l r => Host.dotGeneral dot_S4096x64_S64x64_S4096x64_1_0_0_1_n_n none l r) main_v21 main_v73
  let main_v75 : FVec F S64x4096 .f32 := (transpose S64x4096 [1, 0] · transposes_S4096x64_S64x4096_1_0) main_v21
  let main_v76 : FVec F S4096x4096 .f32 := (fun l r => Host.dotGeneral dot_S4096x64_S64x4096_S4096x4096_1_0_0_1_n_n none l r) main_v74 main_v75
  let main_cst_7 : FVec F S_ .f32 := constant S_ .f32 0x40800000#32
  let main_v77 : FVec F S4096x4096 .f32 := broadcastInDim S4096x4096 ![] bcast_S_S4096x4096 main_cst_7
  let main_v78 : FVec F S4096x4096 .f32 := Host.divf main_v76 main_v77
  let main_v79 : FVec F S4096x4096 .f32 := Host.tanh main_v78
  let main_v80 : IVec S4096x1 32 := broadcastInDim S4096x1 ![0] bcast_S4096_S4096x1_0 main_v42
  let main_v81 : IVec S1x4096 32 := broadcastInDim S1x4096 ![1] bcast_S4096_S1x4096_1 main_v42
  let main_v82 : IVec S4096x4096 32 := broadcastInDim S4096x4096 ![0, 1] bcast_S4096x1_S4096x4096_0_1 main_v80
  let main_v83 : IVec S4096x4096 32 := broadcastInDim S4096x4096 ![0, 1] bcast_S1x4096_S4096x4096_0_1 main_v81
  let main_v84 : IVec S4096x4096 1 := cmpi .eq main_v82 main_v83
  let main_cst_8 : FVec F S_ .f32 := constant S_ .f32 0x00000000#32
  let main_v85 : FVec F S4096x4096 .f32 := fn_where (F := F) main_v84 main_v79 main_cst_8
  fn_part4 (F := F) main_arg1 main_arg12 main_v21 main_v37 main_v41 main_v42 main_v71 main_v79 main_v85

def fn_part2 {F : FTy → Type} [FloatOps F] (main_arg1 : FVec F S4096x2 .f32) (main_arg12 : FVec F S3x64x64 .f32) (main_v21 : FVec F S4096x64 .f32) (main_v37 : FVec F S4096x4096 .f32) (main_v41 : FVec F S4096x4096 .f32) (main_v42 : IVec S4096 32) (main_v45 : FVec F S4096x64 .f32) : IVec S4096x2 1 × IVec S4096x20 1 × IVec S4096x20 1 × IVec S4096x20 1 :=
  let main_v46 : FVec F S64x4096 .f32 := (transpose S64x4096 [1, 0] · transposes_S4096x64_S64x4096_1_0) main_v21
  let main_v47 : FVec F S4096x4096 .f32 := (fun l r => Host.dotGeneral dot_S4096x64_S64x4096_S4096x4096_1_0_0_1_n_n none l r) main_v45 main_v46
  let main_cst_1 : FVec F S_ .f32 := constant S_ .f32 0x40800000#32
  let main_v48 : FVec F S4096x4096 .f32 := broadcastInDim S4096x4096 ![] bcast_S_S4096x4096 main_cst_1
  let main_v49 : FVec F S4096x4096 .f32 := Host.divf main_v47 main_v48
  let main_v50 : FVec F S4096x4096 .f32 := Host.tanh main_v49
  let main_v51 : IVec S4096x1 32 := broadcastInDim S4096x1 ![0] bcast_S4096_S4096x1_0 main_v42
  let main_v52 : IVec S1x4096 32 := broadcastInDim S1x4096 ![1] bcast_S4096_S1x4096_1 main_v42
  let main_v53 : IVec S4096x4096 32 := broadcastInDim S4096x4096 ![0, 1] bcast_S4096x1_S4096x4096_0_1 main_v51
  let main_v54 : IVec S4096x4096 32 := broadcastInDim S4096x4096 ![0, 1] bcast_S1x4096_S4096x4096_0_1 main_v52
  let main_v55 : IVec S4096x4096 1 := cmpi .eq main_v53 main_v54
  let main_cst_2 : FVec F S_ .f32 := constant S_ .f32 0x00000000#32
  let main_v56 : FVec F S4096x4096 .f32 := fn_where (F := F) main_v55 main_v50 main_cst_2
  let main_v57 : FVec F S4096x4096 .f32 := subf main_v50 main_v56
  let main_v58 : FVec F S4096x4096 .f32 := fn_softplus (F := F) main_v57
  let main_cst_3 : FVec F S_ .f32 := constant S_ .f32 0x42C80000#32
  let main_v59 : FVec F S4096x4096 .f32 := broadcastInDim S4096x4096 ![] bcast_S_S4096x4096 main_cst_3
  let main_v60 : FVec F S4096x4096 .f32 := mulf main_v37 main_v59
  let main_cst_4 : FVec F S_ .f32 := constant S_ .f32 0x3F800000#32
  let main_v61 : FVec F S4096x4096 .f32 := broadcastInDim S4096x4096 ![] bcast_S_S4096x4096 main_cst_4
  let main_v62 : IVec S4096x4096 1 := cmpf .ole main_v60 main_v61
  let main_v63 : FVec F S4096x4096 .f32 := uitofp .f32 main_v62
  let main_v64 : FVec F S4096x4096 .f32 := Host.negf main_v41
  let main_cst_5 : FVec F S_ .f32 := constant S_ .f32 0x447A0000#32
  fn_part3 (F := F) main_arg1 main_arg12 main_v21 main_v37 main_v41 main_v42 main_v58 main_v63 main_v64 main_cst_5

def fn_part1 {F : FTy → Type} [FloatOps F] (main_arg1 : FVec F S4096x2 .f32) (main_arg12 : FVec F S3x64x64 .f32) (main_v21 : FVec F S4096x64 .f32) (main_v22 : FVec F S4096x1 .f32) : IVec S4096x2 1 × IVec S4096x20 1 × IVec S4096x20 1 × IVec S4096x20 1 :=
  let main_v23 : FVec F S4096x1 .f32 := (extractStridedSlice S4096x1 ![0, 0] · slices_S4096x2_S4096x1_0_0) main_arg1
  let main_v24 : FVec F S1x4096 .f32 := (transpose S1x4096 [1, 0] · transposes_S4096x1_S1x4096_1_0) main_v23
  let main_v25 : FVec F S4096x4096 .f32 := broadcastInDim S4096x4096 ![0, 1] bcast_S4096x1_S4096x4096_0_1 main_v22
  let main_v26 : FVec F S4096x4096 .f32 := broadcastInDim S4096x4096 ![0, 1] bcast_S1x4096_S4096x4096_0_1 main_v24
  let main_v27 : FVec F S4096x4096 .f32 := subf main_v25 main_v26
  let main_v28 : FVec F S4096x1 .f32 := (extractStridedSlice S4096x1 ![0, 1] · slices_S4096x2_S4096x1_0_1) main_arg1
  let main_v29 : FVec F S4096x1 .f32 := (extractStridedSlice S4096x1 ![0, 1] · slices_S4096x2_S4096x1_0_1) main_arg1
  let main_v30 : FVec F S1x4096 .f32 := (transpose S1x4096 [1, 0] · transposes_S4096x1_S1x4096_1_0) main_v29
  let main_v31 : FVec F S4096x4096 .f32 := broadcastInDim S4096x4096 ![0, 1] bcast_S4096x1_S4096x4096_0_1 main_v28
  let main_v32 : FVec F S4096x4096 .f32 := broadcastInDim S4096x4096 ![0, 1] bcast_S1x4096_S4096x4096_0_1 main_v30
  let main_v33 : FVec F S4096x4096 .f32 := subf main_v31 main_v32
  let main_v34 : FVec F S4096x4096 .f32 := mulf main_v27 main_v27
  let main_v35 : FVec F S4096x4096 .f32 := mulf main_v33 main_v33
  let main_v36 : FVec F S4096x4096 .f32 := addf main_v34 main_v35
  let main_v37 : FVec F S4096x4096 .f32 := Host.sqrt main_v36
  let main_cst_0 : FVec F S_ .f32 := constant S_ .f32 0x0DA24260#32
  let main_v38 : FVec F S4096x4096 .f32 := broadcastInDim S4096x4096 ![] bcast_S_S4096x4096 main_cst_0
  let main_v39 : FVec F S4096x4096 .f32 := addf main_v36 main_v38
  let main_v40 : FVec F S4096x4096 .f32 := Host.sqrt main_v39
  let main_v41 : FVec F S4096x4096 .f32 := Host.divf main_v36 main_v40
  let main_v42 : IVec S4096 32 := iotaInDim S4096 32 0
  let main_v43 : FVec F S1x64x64 .f32 := (extractStridedSlice S1x64x64 ![0, 0, 0] · slices_S3x64x64_S1x64x64_0_0_0) main_arg12
  let main_v44 : FVec F S64x64 .f32 := shapeCast S64x64 main_v43 shapeCasts_S1x64x64_S64x64
  let main_v45 : FVec F S4096x64 .f32 := (fun l r => Host.dotGeneral dot_S4096x64_S64x64_S4096x64_1_0_0_1_n_n none l r) main_v21 main_v44
  fn_part2 (F := F) main_arg1 main_arg12 main_v21 main_v37 main_v41 main_v42 main_v45

def fn {F : FTy → Type} [FloatOps F] (main_arg0 : FVec F S4096x16 .f32) (main_arg1 : FVec F S4096x2 .f32) (main_arg2 : FVec F S16 .f32) (main_arg3 : FVec F S16 .f32) (main_arg4 : FVec F S16x128 .f32) (main_arg5 : FVec F S128 .f32) (main_arg6 : FVec F S128x128 .f32) (main_arg7 : FVec F S128 .f32) (main_arg8 : FVec F S128x64 .f32) (main_arg9 : FVec F S64 .f32) (main_arg10 : FVec F S64x3 .f32) (main_arg11 : FVec F S3 .f32) (main_arg12 : FVec F S3x64x64 .f32) (main_arg13 : FVec F S64x3 .f32) (main_arg14 : FVec F S3 .f32) : IVec S4096x2 1 × IVec S4096x20 1 × IVec S4096x20 1 × IVec S4096x20 1 :=
  let main_v0 : FVec F S1x16 .f32 := broadcastInDim S1x16 ![1] bcast_S16_S1x16_1 main_arg2
  let main_v1 : FVec F S4096x16 .f32 := broadcastInDim S4096x16 ![0, 1] bcast_S1x16_S4096x16_0_1 main_v0
  let main_v2 : FVec F S4096x16 .f32 := subf main_arg0 main_v1
  let main_cst : FVec F S_ .f32 := constant S_ .f32 0x358637BD#32
  let main_v3 : FVec F S16 .f32 := broadcastInDim S16 ![] bcast_S_S16 main_cst
  let main_v4 : FVec F S16 .f32 := addf main_arg3 main_v3
  let main_v5 : FVec F S1x16 .f32 := broadcastInDim S1x16 ![1] bcast_S16_S1x16_1 main_v4
  let main_v6 : FVec F S4096x16 .f32 := broadcastInDim S4096x16 ![0, 1] bcast_S1x16_S4096x16_0_1 main_v5
  let main_v7 : FVec F S4096x16 .f32 := Host.divf main_v2 main_v6
  let main_v8 : FVec F S4096x128 .f32 := (fun l r => Host.dotGeneral dot_S4096x16_S16x128_S4096x128_1_0_0_1_n_n none l r) main_v7 main_arg4
  let main_v9 : FVec F S1x128 .f32 := broadcastInDim S1x128 ![1] bcast_S128_S1x128_1 main_arg5
  let main_v10 : FVec F S4096x128 .f32 := broadcastInDim S4096x128 ![0, 1] bcast_S1x128_S4096x128_0_1 main_v9
  let main_v11 : FVec F S4096x128 .f32 := addf main_v8 main_v10
  let main_v12 : FVec F S4096x128 .f32 := fn_relu (F := F) main_v11
  let main_v13 : FVec F S4096x128 .f32 := (fun l r => Host.dotGeneral dot_S4096x128_S128x128_S4096x128_1_0_0_1_n_n none l r) main_v12 main_arg6
  let main_v14 : FVec F S1x128 .f32 := broadcastInDim S1x128 ![1] bcast_S128_S1x128_1 main_arg7
  let main_v15 : FVec F S4096x128 .f32 := broadcastInDim S4096x128 ![0, 1] bcast_S1x128_S4096x128_0_1 main_v14
  let main_v16 : FVec F S4096x128 .f32 := addf main_v13 main_v15
  let main_v17 : FVec F S4096x128 .f32 := fn_relu (F := F) main_v16
  let main_v18 : FVec F S4096x64 .f32 := (fun l r => Host.dotGeneral dot_S4096x128_S128x64_S4096x64_1_0_0_1_n_n none l r) main_v17 main_arg8
  let main_v19 : FVec F S1x64 .f32 := broadcastInDim S1x64 ![1] bcast_S64_S1x64_1 main_arg9
  let main_v20 : FVec F S4096x64 .f32 := broadcastInDim S4096x64 ![0, 1] bcast_S1x64_S4096x64_0_1 main_v19
  let main_v21 : FVec F S4096x64 .f32 := addf main_v18 main_v20
  let main_v22 : FVec F S4096x1 .f32 := (extractStridedSlice S4096x1 ![0, 0] · slices_S4096x2_S4096x1_0_0) main_arg1
  fn_part1 (F := F) main_arg1 main_arg12 main_v21 main_v22
-- ==== Kernel.lean ====
abbrev S4096x16 : Shape := ⟨2, ![4096, 16]⟩
abbrev S4096x2 : Shape := ⟨2, ![4096, 2]⟩
abbrev S16 : Shape := ⟨1, ![16]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S3x64x64 : Shape := ⟨3, ![3, 64, 64]⟩
abbrev S_ : Shape := ⟨0, ![]⟩
abbrev S64x128 : Shape := ⟨2, ![64, 128]⟩
abbrev S1 : Shape := ⟨1, ![1]⟩
abbrev S1x128 : Shape := ⟨2, ![1, 128]⟩
abbrev S2 : Shape := ⟨1, ![2]⟩
abbrev S1x16 : Shape := ⟨2, ![1, 16]⟩
abbrev S1x64 : Shape := ⟨2, ![1, 64]⟩
abbrev S4096x64 : Shape := ⟨2, ![4096, 64]⟩
abbrev S4096x128 : Shape := ⟨2, ![4096, 128]⟩
abbrev S3x4096x64 : Shape := ⟨3, ![3, 4096, 64]⟩
abbrev S4096x3 : Shape := ⟨2, ![4096, 3]⟩
abbrev S64x4096 : Shape := ⟨2, ![64, 4096]⟩
abbrev S2x4096 : Shape := ⟨2, ![2, 4096]⟩
abbrev S3x4096x4096 : Shape := ⟨3, ![3, 4096, 4096]⟩
abbrev S1x64x64 : Shape := ⟨3, ![1, 64, 64]⟩
abbrev S64x64 : Shape := ⟨2, ![64, 64]⟩
abbrev S1x4096x64 : Shape := ⟨3, ![1, 4096, 64]⟩
abbrev S3x128x64 : Shape := ⟨3, ![3, 128, 64]⟩
abbrev S128x2 : Shape := ⟨2, ![128, 2]⟩
abbrev S3x128x4096 : Shape := ⟨3, ![3, 128, 4096]⟩
abbrev S128x1 : Shape := ⟨2, ![128, 1]⟩
abbrev S1x4096 : Shape := ⟨2, ![1, 4096]⟩
abbrev S128x4096 : Shape := ⟨2, ![128, 4096]⟩
abbrev S1x128x1 : Shape := ⟨3, ![1, 128, 1]⟩
abbrev S1x1x1 : Shape := ⟨3, ![1, 1, 1]⟩
abbrev S384x64 : Shape := ⟨2, ![384, 64]⟩
abbrev S384x4096 : Shape := ⟨2, ![384, 4096]⟩
abbrev S1x128x4096 : Shape := ⟨3, ![1, 128, 4096]⟩
abbrev S1x128x128 : Shape := ⟨3, ![1, 128, 128]⟩

abbrev nBuf : Space → Nat
  | .hbm => 52
  | .vmem => 23
  | .smem => 0
  | _ => 0

abbrev bufTy : (tb : Table) → Fin (tcTables nBuf tb) → BufTy
  | .hbm, ⟨0, _⟩ => ⟨S4096x16, .f32⟩
  | .hbm, ⟨1, _⟩ => ⟨S4096x2, .f32⟩
  | .hbm, ⟨2, _⟩ => ⟨S16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x3, .f32⟩
  | .hbm, ⟨11, _⟩ => ⟨S3, .f32⟩
  | .hbm, ⟨12, _⟩ => ⟨S3x64x64, .f32⟩
  | .hbm, ⟨13, _⟩ => ⟨S64x3, .f32⟩
  | .hbm, ⟨14, _⟩ => ⟨S3, .f32⟩
  | .hbm, ⟨15, _⟩ => ⟨S_, .f32⟩
  | .hbm, ⟨16, _⟩ => ⟨S64x128, .f32⟩
  | .hbm, ⟨17, _⟩ => ⟨S_, .i32⟩
  | .hbm, ⟨18, _⟩ => ⟨S1, .i32⟩
  | .hbm, ⟨19, _⟩ => ⟨S64x128, .f32⟩
  | .hbm, ⟨20, _⟩ => ⟨S_, .i32⟩
  | .hbm, ⟨21, _⟩ => ⟨S1, .i32⟩
  | .hbm, ⟨22, _⟩ => ⟨S64x128, .f32⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S1x16, .f32⟩
  | .hbm, ⟨38, _⟩ => ⟨S1x16, .f32⟩
  | .hbm, ⟨39, _⟩ => ⟨S1x128, .f32⟩
  | .hbm, ⟨40, _⟩ => ⟨S1x128, .f32⟩
  | .hbm, ⟨41, _⟩ => ⟨S1x64, .f32⟩
  | .hbm, ⟨42, _⟩ => ⟨S4096x64, .f32⟩
  | .hbm, ⟨43, _⟩ => ⟨S4096x128, .f32⟩
  | .hbm, ⟨44, _⟩ => ⟨S3x4096x64, .f32⟩
  | .hbm, ⟨45, _⟩ => ⟨S4096x3, .f32⟩
  | .hbm, ⟨46, _⟩ => ⟨S4096x3, .f32⟩
  | .hbm, ⟨47, _⟩ => ⟨S3x4096x64, .bf16⟩
  | .hbm, ⟨48, _⟩ => ⟨S64x4096, .f32⟩
  | .hbm, ⟨49, _⟩ => ⟨S64x4096, .bf16⟩
  | .hbm, ⟨50, _⟩ => ⟨S2x4096, .f32⟩
  | .hbm, ⟨51, _⟩ => ⟨S3x4096x4096, .f32⟩
  | .local _ .vmem, ⟨0, _⟩ => ⟨S4096x16, .f32⟩
  | .local _ .vmem, ⟨1, _⟩ => ⟨S1x16, .f32⟩
  | .local _ .vmem, ⟨2, _⟩ => ⟨S1x16, .f32⟩
  | .local _ .vmem, ⟨3, _⟩ => ⟨S16x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S64x128, .f32⟩
  | .local _ .vmem, ⟨10, _⟩ => ⟨S1x128, .f32⟩
  | .local _ .vmem, ⟨11, _⟩ => ⟨S3x64x64, .f32⟩
  | .local _ .vmem, ⟨12, _⟩ => ⟨S4096x64, .f32⟩
  | .local _ .vmem, ⟨13, _⟩ => ⟨S4096x128, .f32⟩
  | .local _ .vmem, ⟨14, _⟩ => ⟨S3x4096x64, .f32⟩
  | .local _ .vmem, ⟨15, _⟩ => ⟨S3x128x64, .bf16⟩
  | .local _ .vmem, ⟨16, _⟩ => ⟨S3x128x64, .bf16⟩
  | .local _ .vmem, ⟨17, _⟩ => ⟨S64x4096, .bf16⟩
  | .local _ .vmem, ⟨18, _⟩ => ⟨S128x2, .f32⟩
  | .local _ .vmem, ⟨19, _⟩ => ⟨S128x2, .f32⟩
  | .local _ .vmem, ⟨20, _⟩ => ⟨S2x4096, .f32⟩
  | .local _ .vmem, ⟨21, _⟩ => ⟨S3x128x4096, .f32⟩
  | .local _ .vmem, ⟨22, _⟩ => ⟨S3x128x4096, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_cst : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_c_0 : Ref sig .tc := ⟨.hbm, 20, rfl⟩
abbrev main_call0_v3 : Ref sig .tc := ⟨.hbm, 21, rfl⟩
abbrev main_call0_v4 : Ref sig .tc := ⟨.hbm, 22, rfl⟩
abbrev main_call0_cst_1 : Ref sig .tc := ⟨.hbm, 23, rfl⟩
abbrev main_call0_v5 : Ref sig .tc := ⟨.hbm, 24, rfl⟩
abbrev main_call0_c_2 : Ref sig .tc := ⟨.hbm, 25, rfl⟩
abbrev main_call0_v6 : Ref sig .tc := ⟨.hbm, 26, rfl⟩
abbrev main_call0_c_3 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_c_4 : Ref sig .tc := ⟨.hbm, 31, rfl⟩
abbrev main_call0_v10 : Ref sig .tc := ⟨.hbm, 32, rfl⟩
abbrev main_call0_c_5 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_v0_0 : Ref sig .tc := ⟨.hbm, 42, rfl⟩
abbrev main_call0_v19_1 : Ref sig .tc := ⟨.hbm, 43, rfl⟩
abbrev main_call0_v19_2 : Ref sig .tc := ⟨.hbm, 44, rfl⟩
abbrev main_v0_1 : Ref sig .tc := ⟨.hbm, 45, rfl⟩
abbrev main_v0_3 : Ref sig .tc := ⟨.hbm, 46, rfl⟩
abbrev main_call0_v22 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_v0_2 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := .none

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x4096x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev grid1 : Pipeline.Grid := ⟨1, ![32], ![false]⟩

def k1_off1 (i : grid1.Coords) : Fin 3 → Nat :=
  let c0_20 : Index := 0#32
  let c0_21 : Index := 0#32
  let arg0 : BitVec 32 := BitVec.ofNat 32 (i 0).val
  let c128_i32 : BitVec 32 := 128#32
  let v46 : BitVec 32 := Scalar.muli arg0 c128_i32
  let v55 : Index := Scalar.indexCast v46
  ![0, 0, v55.toNat]
def k1_off2 (i : grid1.Coords) : Fin 3 → Nat :=
  let c1_28 : Index := 1#32
  let c0_29 : Index := 0#32
  let arg0 : BitVec 32 := BitVec.ofNat 32 (i 0).val
  let c128_i32 : BitVec 32 := 128#32
  let v46 : BitVec 32 := Scalar.muli arg0 c128_i32
  let v74 : Index := Scalar.indexCast v46
  ![1, 0, v74.toNat]
def k1_off3 (i : grid1.Coords) : Fin 3 → Nat :=
  let c2_36 : Index := 2#32
  let c0_37 : Index := 0#32
  let arg0 : BitVec 32 := BitVec.ofNat 32 (i 0).val
  let c128_i32 : BitVec 32 := 128#32
  let v46 : BitVec 32 := Scalar.muli arg0 c128_i32
  let v93 : Index := Scalar.indexCast v46
  ![2, 0, v93.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S3x128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3x128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "log_two" => some ((Real.log 2 : ℝ) : EReal)
  | "max_dist_sq" => some ((1 / 10000 : ℝ) : EReal)
  | "neg_inv_ls" => some ((-500 / 3 : ℝ) : EReal)
  | _ => none
-- ==== ReferenceIdeal.lean ====
abbrev S4096x16 : Shape := ⟨2, ![4096, 16]⟩
abbrev S4096x2 : Shape := ⟨2, ![4096, 2]⟩
abbrev S16 : Shape := ⟨1, ![16]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S3x64x64 : Shape := ⟨3, ![3, 64, 64]⟩
abbrev S1x16 : Shape := ⟨2, ![1, 16]⟩
abbrev S_ : Shape := ⟨0, ![]⟩
abbrev S4096x128 : Shape := ⟨2, ![4096, 128]⟩
abbrev S1x128 : Shape := ⟨2, ![1, 128]⟩
abbrev S4096x64 : Shape := ⟨2, ![4096, 64]⟩
abbrev S1x64 : Shape := ⟨2, ![1, 64]⟩
abbrev S4096x3 : Shape := ⟨2, ![4096, 3]⟩
abbrev S1x3 : Shape := ⟨2, ![1, 3]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x64x64 : Shape := ⟨3, ![1, 64, 64]⟩
abbrev S64x64 : Shape := ⟨2, ![64, 64]⟩
abbrev S64x4096 : Shape := ⟨2, ![64, 4096]⟩
abbrev S4096x20 : Shape := ⟨2, ![4096, 20]⟩
abbrev S4096x20x1 : Shape := ⟨3, ![4096, 20, 1]⟩
abbrev S4096x20x2 : Shape := ⟨3, ![4096, 20, 2]⟩
abbrev S1x4096x4096 : Shape := ⟨3, ![1, 4096, 4096]⟩
abbrev S3x4096x4096 : Shape := ⟨3, ![3, 4096, 4096]⟩

abbrev nBuf : Space → Nat
  | .hbm => 306
  | .vmem => 0
  | .smem => 0
  | _ => 0

abbrev hbmTy0_0 (i : Nat) : BufTy := match i % 128 with
  | 0 => ⟨S4096x16, .f32⟩
  | 1 => ⟨S4096x2, .f32⟩
  | 2 => ⟨S16, .f32⟩
  | 3 => ⟨S16, .f32⟩
  | 4 => ⟨S16x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S64x3, .f32⟩
  | 11 => ⟨S3, .f32⟩
  | 12 => ⟨S3x64x64, .f32⟩
  | 13 => ⟨S64x3, .f32⟩
  | 14 => ⟨S3, .f32⟩
  | 15 => ⟨S1x16, .f32⟩
  | 16 => ⟨S4096x16, .f32⟩
  | 17 => ⟨S4096x16, .f32⟩
  | 18 => ⟨S_, .f32⟩
  | 19 => ⟨S16, .f32⟩
  | 20 => ⟨S16, .f32⟩
  | 21 => ⟨S1x16, .f32⟩
  | 22 => ⟨S4096x16, .f32⟩
  | 23 => ⟨S4096x16, .f32⟩
  | 24 => ⟨S4096x128, .f32⟩
  | 25 => ⟨S1x128, .f32⟩
  | 26 => ⟨S4096x128, .f32⟩
  | 27 => ⟨S4096x128, .f32⟩
  | 28 => ⟨S_, .f32⟩
  | 29 => ⟨S4096x128, .f32⟩
  | 30 => ⟨S4096x128, .f32⟩
  | 31 => ⟨S4096x128, .f32⟩
  | 32 => ⟨S1x128, .f32⟩
  | 33 => ⟨S4096x128, .f32⟩
  | 34 => ⟨S4096x128, .f32⟩
  | 35 => ⟨S_, .f32⟩
  | 36 => ⟨S4096x128, .f32⟩
  | 37 => ⟨S4096x128, .f32⟩
  | 38 => ⟨S4096x64, .f32⟩
  | 39 => ⟨S1x64, .f32⟩
  | 40 => ⟨S4096x64, .f32⟩
  | 41 => ⟨S4096x64, .f32⟩
  | 42 => ⟨S4096x3, .f32⟩
  | 43 => ⟨S1x3, .f32⟩
  | 44 => ⟨S4096x3, .f32⟩
  | 45 => ⟨S4096x3, .f32⟩
  | 46 => ⟨S4096x3, .f32⟩
  | 47 => ⟨S1x3, .f32⟩
  | 48 => ⟨S4096x3, .f32⟩
  | 49 => ⟨S4096x3, .f32⟩
  | 50 => ⟨S4096, .i32⟩
  | 51 => ⟨S4096x1, .i32⟩
  | 52 => ⟨S4096x1, .f32⟩
  | 53 => ⟨S4096x1, .f32⟩
  | 54 => ⟨S1x4096, .f32⟩
  | 55 => ⟨S4096x4096, .f32⟩
  | 56 => ⟨S4096x4096, .f32⟩
  | 57 => ⟨S4096x4096, .f32⟩
  | 58 => ⟨S4096x1, .f32⟩
  | 59 => ⟨S4096x1, .f32⟩
  | 60 => ⟨S1x4096, .f32⟩
  | 61 => ⟨S4096x4096, .f32⟩
  | 62 => ⟨S4096x4096, .f32⟩
  | 63 => ⟨S4096x4096, .f32⟩
  | 64 => ⟨S4096x4096, .f32⟩
  | 65 => ⟨S4096x4096, .f32⟩
  | 66 => ⟨S4096x4096, .f32⟩
  | 67 => ⟨S4096x4096, .f32⟩
  | 68 => ⟨S_, .f32⟩
  | 69 => ⟨S4096x4096, .f32⟩
  | 70 => ⟨S4096x4096, .f32⟩
  | 71 => ⟨S4096x4096, .f32⟩
  | 72 => ⟨S4096x4096, .f32⟩
  | 73 => ⟨S4096, .i32⟩
  | 74 => ⟨S1x64x64, .f32⟩
  | 75 => ⟨S64x64, .f32⟩
  | 76 => ⟨S4096x64, .f32⟩
  | 77 => ⟨S64x4096, .f32⟩
  | 78 => ⟨S4096x4096, .f32⟩
  | 79 => ⟨S_, .f32⟩
  | 80 => ⟨S4096x4096, .f32⟩
  | 81 => ⟨S4096x4096, .f32⟩
  | 82 => ⟨S4096x4096, .f32⟩
  | 83 => ⟨S4096x1, .i32⟩
  | 84 => ⟨S1x4096, .i32⟩
  | 85 => ⟨S4096x4096, .i32⟩
  | 86 => ⟨S4096x4096, .i32⟩
  | 87 => ⟨S4096x4096, .i1⟩
  | 88 => ⟨S_, .f32⟩
  | 89 => ⟨S_, .f32⟩
  | 90 => ⟨S4096x4096, .f32⟩
  | 91 => ⟨S4096x4096, .f32⟩
  | 92 => ⟨S4096x4096, .f32⟩
  | 93 => ⟨S_, .f32⟩
  | 94 => ⟨S4096x4096, .f32⟩
  | 95 => ⟨S4096x4096, .f32⟩
  | 96 => ⟨S4096x4096, .f32⟩
  | 97 => ⟨S4096x4096, .f32⟩
  | 98 => ⟨S4096x4096, .i1⟩
  | 99 => ⟨S4096x4096, .f32⟩
  | 100 => ⟨S4096x4096, .f32⟩
  | 101 => ⟨S4096x4096, .f32⟩
  | 102 => ⟨S4096x4096, .f32⟩
  | 103 => ⟨S4096x4096, .f32⟩
  | 104 => ⟨S4096x4096, .f32⟩
  | 105 => ⟨S4096x4096, .f32⟩
  | 106 => ⟨S4096x4096, .f32⟩
  | 107 => ⟨S_, .f32⟩
  | 108 => ⟨S4096x4096, .f32⟩
  | 109 => ⟨S4096x4096, .f32⟩
  | 110 => ⟨S_, .f32⟩
  | 111 => ⟨S4096x4096, .f32⟩
  | 112 => ⟨S4096x4096, .i1⟩
  | 113 => ⟨S4096x4096, .f32⟩
  | 114 => ⟨S4096x4096, .f32⟩
  | 115 => ⟨S_, .f32⟩
  | 116 => ⟨S4096x4096, .f32⟩
  | 117 => ⟨S4096x4096, .f32⟩
  | 118 => ⟨S_, .f32⟩
  | 119 => ⟨S4096x4096, .f32⟩
  | 120 => ⟨S4096x4096, .f32⟩
  | 121 => ⟨S4096x4096, .f32⟩
  | 122 => ⟨S4096x4096, .f32⟩
  | 123 => ⟨S4096x4096, .f32⟩
  | 124 => ⟨S1x64x64, .f32⟩
  | 125 => ⟨S64x64, .f32⟩
  | 126 => ⟨S4096x64, .f32⟩
  | 127 => ⟨S64x4096, .f32⟩
  | _ => ⟨S4096x16, .f32⟩

abbrev hbmTy0_1 (i : Nat) : BufTy := match i % 128 with
  | 0 => ⟨S4096x4096, .f32⟩
  | 1 => ⟨S_, .f32⟩
  | 2 => ⟨S4096x4096, .f32⟩
  | 3 => ⟨S4096x4096, .f32⟩
  | 4 => ⟨S4096x4096, .f32⟩
  | 5 => ⟨S4096x1, .i32⟩
  | 6 => ⟨S1x4096, .i32⟩
  | 7 => ⟨S4096x4096, .i32⟩
  | 8 => ⟨S4096x4096, .i32⟩
  | 9 => ⟨S4096x4096, .i1⟩
  | 10 => ⟨S_, .f32⟩
  | 11 => ⟨S_, .f32⟩
  | 12 => ⟨S4096x4096, .f32⟩
  | 13 => ⟨S4096x4096, .f32⟩
  | 14 => ⟨S4096x4096, .f32⟩
  | 15 => ⟨S_, .f32⟩
  | 16 => ⟨S4096x4096, .f32⟩
  | 17 => ⟨S4096x4096, .f32⟩
  | 18 => ⟨S4096x4096, .f32⟩
  | 19 => ⟨S4096x4096, .f32⟩
  | 20 => ⟨S4096x4096, .i1⟩
  | 21 => ⟨S4096x4096, .f32⟩
  | 22 => ⟨S4096x4096, .f32⟩
  | 23 => ⟨S4096x4096, .f32⟩
  | 24 => ⟨S4096x4096, .f32⟩
  | 25 => ⟨S4096x4096, .f32⟩
  | 26 => ⟨S4096x4096, .f32⟩
  | 27 => ⟨S4096x4096, .f32⟩
  | 28 => ⟨S4096x4096, .f32⟩
  | 29 => ⟨S_, .f32⟩
  | 30 => ⟨S4096x4096, .f32⟩
  | 31 => ⟨S4096x4096, .f32⟩
  | 32 => ⟨S_, .f32⟩
  | 33 => ⟨S4096x4096, .f32⟩
  | 34 => ⟨S4096x4096, .i1⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S4096x4096, .f32⟩
  | 44 => ⟨S4096x4096, .f32⟩
  | 45 => ⟨S4096x4096, .f32⟩
  | 46 => ⟨S1x64x64, .f32⟩
  | 47 => ⟨S64x64, .f32⟩
  | 48 => ⟨S4096x64, .f32⟩
  | 49 => ⟨S64x4096, .f32⟩
  | 50 => ⟨S4096x4096, .f32⟩
  | 51 => ⟨S_, .f32⟩
  | 52 => ⟨S4096x4096, .f32⟩
  | 53 => ⟨S4096x4096, .f32⟩
  | 54 => ⟨S4096x4096, .f32⟩
  | 55 => ⟨S4096x1, .i32⟩
  | 56 => ⟨S1x4096, .i32⟩
  | 57 => ⟨S4096x4096, .i32⟩
  | 58 => ⟨S4096x4096, .i32⟩
  | 59 => ⟨S4096x4096, .i1⟩
  | 60 => ⟨S_, .f32⟩
  | 61 => ⟨S_, .f32⟩
  | 62 => ⟨S4096x4096, .f32⟩
  | 63 => ⟨S4096x4096, .f32⟩
  | 64 => ⟨S4096x4096, .f32⟩
  | 65 => ⟨S_, .f32⟩
  | 66 => ⟨S4096x4096, .f32⟩
  | 67 => ⟨S4096x4096, .f32⟩
  | 68 => ⟨S4096x4096, .f32⟩
  | 69 => ⟨S4096x4096, .f32⟩
  | 70 => ⟨S4096x4096, .i1⟩
  | 71 => ⟨S4096x4096, .f32⟩
  | 72 => ⟨S4096x4096, .f32⟩
  | 73 => ⟨S4096x4096, .f32⟩
  | 74 => ⟨S4096x4096, .f32⟩
  | 75 => ⟨S4096x4096, .f32⟩
  | 76 => ⟨S4096x4096, .f32⟩
  | 77 => ⟨S4096x4096, .f32⟩
  | 78 => ⟨S4096x4096, .f32⟩
  | 79 => ⟨S_, .f32⟩
  | 80 => ⟨S4096x4096, .f32⟩
  | 81 => ⟨S4096x4096, .f32⟩
  | 82 => ⟨S_, .f32⟩
  | 83 => ⟨S4096x4096, .f32⟩
  | 84 => ⟨S4096x4096, .i1⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S_, .f32⟩
  | 91 => ⟨S4096x4096, .f32⟩
  | 92 => ⟨S4096x4096, .f32⟩
  | 93 => ⟨S4096x4096, .f32⟩
  | 94 => ⟨S4096x4096, .f32⟩
  | 95 => ⟨S4096x4096, .f32⟩
  | 96 => ⟨S4096x20, .f32⟩
  | 97 => ⟨S4096x20, .i32⟩
  | 98 => ⟨S_, .f32⟩
  | 99 => ⟨S4096x4096, .f32⟩
  | 100 => ⟨S_, .i32⟩
  | 101 => ⟨S4096x1, .i32⟩
  | 102 => ⟨S4096x1, .i1⟩
  | 103 => ⟨S_, .i32⟩
  | 104 => ⟨S4096x1, .i32⟩
  | 105 => ⟨S4096x1, .i32⟩
  | 106 => ⟨S4096x1, .i32⟩
  | 107 => ⟨S_, .i32⟩
  | 108 => ⟨S4096x20, .i32⟩
  | 109 => ⟨S4096x20, .i1⟩
  | 110 => ⟨S_, .i32⟩
  | 111 => ⟨S4096x20, .i32⟩
  | 112 => ⟨S4096x20, .i32⟩
  | 113 => ⟨S4096x20, .i32⟩
  | 114 => ⟨S4096x20, .i32⟩
  | 115 => ⟨S4096x20x1, .i32⟩
  | 116 => ⟨S4096x20x1, .i32⟩
  | 117 => ⟨S4096x20x2, .i32⟩
  | 118 => ⟨S_, .f32⟩
  | 119 => ⟨S4096x20, .f32⟩
  | 120 => ⟨S4096x4096, .f32⟩
  | 121 => ⟨S4096x4096, .f32⟩
  | 122 => ⟨S4096x20, .f32⟩
  | 123 => ⟨S4096x20, .i32⟩
  | 124 => ⟨S_, .f32⟩
  | 125 => ⟨S4096x4096, .f32⟩
  | 126 => ⟨S_, .i32⟩
  | 127 => ⟨S4096x1, .i32⟩
  | _ => ⟨S4096x16, .f32⟩

abbrev hbmTy0_2 (i : Nat) : BufTy := match i % 128 with
  | 0 => ⟨S4096x1, .i1⟩
  | 1 => ⟨S_, .i32⟩
  | 2 => ⟨S4096x1, .i32⟩
  | 3 => ⟨S4096x1, .i32⟩
  | 4 => ⟨S4096x1, .i32⟩
  | 5 => ⟨S_, .i32⟩
  | 6 => ⟨S4096x20, .i32⟩
  | 7 => ⟨S4096x20, .i1⟩
  | 8 => ⟨S_, .i32⟩
  | 9 => ⟨S4096x20, .i32⟩
  | 10 => ⟨S4096x20, .i32⟩
  | 11 => ⟨S4096x20, .i32⟩
  | 12 => ⟨S4096x20, .i32⟩
  | 13 => ⟨S4096x20x1, .i32⟩
  | 14 => ⟨S4096x20x1, .i32⟩
  | 15 => ⟨S4096x20x2, .i32⟩
  | 16 => ⟨S_, .f32⟩
  | 17 => ⟨S4096x20, .f32⟩
  | 18 => ⟨S4096x4096, .f32⟩
  | 19 => ⟨S4096x4096, .f32⟩
  | 20 => ⟨S4096x20, .f32⟩
  | 21 => ⟨S4096x20, .i32⟩
  | 22 => ⟨S_, .f32⟩
  | 23 => ⟨S4096x4096, .f32⟩
  | 24 => ⟨S_, .i32⟩
  | 25 => ⟨S4096x1, .i32⟩
  | 26 => ⟨S4096x1, .i1⟩
  | 27 => ⟨S_, .i32⟩
  | 28 => ⟨S4096x1, .i32⟩
  | 29 => ⟨S4096x1, .i32⟩
  | 30 => ⟨S4096x1, .i32⟩
  | 31 => ⟨S_, .i32⟩
  | 32 => ⟨S4096x20, .i32⟩
  | 33 => ⟨S4096x20, .i1⟩
  | 34 => ⟨S_, .i32⟩
  | 35 => ⟨S4096x20, .i32⟩
  | 36 => ⟨S4096x20, .i32⟩
  | 37 => ⟨S4096x20, .i32⟩
  | 38 => ⟨S4096x20, .i32⟩
  | 39 => ⟨S4096x20x1, .i32⟩
  | 40 => ⟨S4096x20x1, .i32⟩
  | 41 => ⟨S4096x20x2, .i32⟩
  | 42 => ⟨S_, .f32⟩
  | 43 => ⟨S4096x20, .f32⟩
  | 44 => ⟨S4096x4096, .f32⟩
  | 45 => ⟨S4096x4096, .f32⟩
  | 46 => ⟨S1x4096x4096, .f32⟩
  | 47 => ⟨S1x4096x4096, .f32⟩
  | 48 => ⟨S1x4096x4096, .f32⟩
  | 49 => ⟨S3x4096x4096, .f32⟩
  | _ => ⟨S4096x16, .f32⟩

abbrev hbmTy (i : Nat) : BufTy := match i / 128 with
  | 0 => hbmTy0_0 i
  | 1 => hbmTy0_1 i
  | 2 => hbmTy0_2 i
  | _ => ⟨S4096x16, .f32⟩

abbrev bufTy : (tb : Table) → Fin (tcTables nBuf tb) → BufTy
  | .hbm, ⟨i, _⟩ => hbmTy i
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_cst : Ref sig .tc := ⟨.hbm, 28, rfl⟩
abbrev main_call0_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_cst : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_1 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_2 : Ref sig .tc := ⟨.hbm, 88, rfl⟩
abbrev main_call2_v0 : Ref sig .tc := ⟨.hbm, 89, rfl⟩
abbrev main_call2_v1 : Ref sig .tc := ⟨.hbm, 90, rfl⟩
abbrev main_v66 : Ref sig .tc := ⟨.hbm, 91, rfl⟩
abbrev main_v67 : Ref sig .tc := ⟨.hbm, 92, rfl⟩
abbrev main_call3_cst : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_v68 : Ref sig .tc := ⟨.hbm, 106, rfl⟩
abbrev main_cst_3 : Ref sig .tc := ⟨.hbm, 107, rfl⟩
abbrev main_v69 : Ref sig .tc := ⟨.hbm, 108, rfl⟩
abbrev main_v70 : Ref sig .tc := ⟨.hbm, 109, rfl⟩
abbrev main_cst_4 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_5 : Ref sig .tc := ⟨.hbm, 115, rfl⟩
abbrev main_v75 : Ref sig .tc := ⟨.hbm, 116, rfl⟩
abbrev main_v76 : Ref sig .tc := ⟨.hbm, 117, rfl⟩
abbrev main_cst_6 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_7 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_8 : Ref sig .tc := ⟨.hbm, 138, rfl⟩
abbrev main_call4_v0 : Ref sig .tc := ⟨.hbm, 139, rfl⟩
abbrev main_call4_v1 : Ref sig .tc := ⟨.hbm, 140, rfl⟩
abbrev main_v95 : Ref sig .tc := ⟨.hbm, 141, rfl⟩
abbrev main_v96 : Ref sig .tc := ⟨.hbm, 142, rfl⟩
abbrev main_call5_cst : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_v97 : Ref sig .tc := ⟨.hbm, 156, rfl⟩
abbrev main_cst_9 : Ref sig .tc := ⟨.hbm, 157, rfl⟩
abbrev main_v98 : Ref sig .tc := ⟨.hbm, 158, rfl⟩
abbrev main_v99 : Ref sig .tc := ⟨.hbm, 159, rfl⟩
abbrev main_cst_10 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_cst_11 : Ref sig .tc := ⟨.hbm, 165, rfl⟩
abbrev main_v104 : Ref sig .tc := ⟨.hbm, 166, rfl⟩
abbrev main_v105 : Ref sig .tc := ⟨.hbm, 167, rfl⟩
abbrev main_cst_12 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_13 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_14 : Ref sig .tc := ⟨.hbm, 188, rfl⟩
abbrev main_call6_v0 : Ref sig .tc := ⟨.hbm, 189, rfl⟩
abbrev main_call6_v1 : Ref sig .tc := ⟨.hbm, 190, rfl⟩
abbrev main_v124 : Ref sig .tc := ⟨.hbm, 191, rfl⟩
abbrev main_v125 : Ref sig .tc := ⟨.hbm, 192, rfl⟩
abbrev main_call7_cst : Ref sig .tc := ⟨.hbm, 193, rfl⟩
abbrev main_call7_v0 : Ref sig .tc := ⟨.hbm, 194, rfl⟩
abbrev main_call7_v1 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_v5 : Ref sig .tc := ⟨.hbm, 199, rfl⟩
abbrev main_call7_v6 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_call7_v11 : Ref sig .tc := ⟨.hbm, 205, rfl⟩
abbrev main_v126 : Ref sig .tc := ⟨.hbm, 206, rfl⟩
abbrev main_cst_15 : Ref sig .tc := ⟨.hbm, 207, rfl⟩
abbrev main_v127 : Ref sig .tc := ⟨.hbm, 208, rfl⟩
abbrev main_v128 : Ref sig .tc := ⟨.hbm, 209, rfl⟩
abbrev main_cst_16 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_cst_17 : Ref sig .tc := ⟨.hbm, 215, rfl⟩
abbrev main_v133 : Ref sig .tc := ⟨.hbm, 216, rfl⟩
abbrev main_v134 : Ref sig .tc := ⟨.hbm, 217, rfl⟩
abbrev main_cst_18 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_values : Ref sig .tc := ⟨.hbm, 224, rfl⟩
abbrev main_indices : Ref sig .tc := ⟨.hbm, 225, rfl⟩
abbrev main_cst_19 : Ref sig .tc := ⟨.hbm, 226, rfl⟩
abbrev main_v140 : Ref sig .tc := ⟨.hbm, 227, rfl⟩
abbrev main_c : Ref sig .tc := ⟨.hbm, 228, rfl⟩
abbrev main_v141 : Ref sig .tc := ⟨.hbm, 229, rfl⟩
abbrev main_v142 : Ref sig .tc := ⟨.hbm, 230, rfl⟩
abbrev main_c_20 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_c_21 : Ref sig .tc := ⟨.hbm, 235, rfl⟩
abbrev main_v146 : Ref sig .tc := ⟨.hbm, 236, rfl⟩
abbrev main_v147 : Ref sig .tc := ⟨.hbm, 237, rfl⟩
abbrev main_c_22 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_cst_23 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_values_24 : Ref sig .tc := ⟨.hbm, 250, rfl⟩
abbrev main_indices_25 : Ref sig .tc := ⟨.hbm, 251, rfl⟩
abbrev main_cst_26 : Ref sig .tc := ⟨.hbm, 252, rfl⟩
abbrev main_v158 : Ref sig .tc := ⟨.hbm, 253, rfl⟩
abbrev main_c_27 : Ref sig .tc := ⟨.hbm, 254, rfl⟩
abbrev main_v159 : Ref sig .tc := ⟨.hbm, 255, rfl⟩
abbrev main_v160 : Ref sig .tc := ⟨.hbm, 256, rfl⟩
abbrev main_c_28 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_c_29 : Ref sig .tc := ⟨.hbm, 261, rfl⟩
abbrev main_v164 : Ref sig .tc := ⟨.hbm, 262, rfl⟩
abbrev main_v165 : Ref sig .tc := ⟨.hbm, 263, rfl⟩
abbrev main_c_30 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_cst_31 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_values_32 : Ref sig .tc := ⟨.hbm, 276, rfl⟩
abbrev main_indices_33 : Ref sig .tc := ⟨.hbm, 277, rfl⟩
abbrev main_cst_34 : Ref sig .tc := ⟨.hbm, 278, rfl⟩
abbrev main_v176 : Ref sig .tc := ⟨.hbm, 279, rfl⟩
abbrev main_c_35 : Ref sig .tc := ⟨.hbm, 280, rfl⟩
abbrev main_v177 : Ref sig .tc := ⟨.hbm, 281, rfl⟩
abbrev main_v178 : Ref sig .tc := ⟨.hbm, 282, rfl⟩
abbrev main_c_36 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_c_37 : Ref sig .tc := ⟨.hbm, 287, rfl⟩
abbrev main_v182 : Ref sig .tc := ⟨.hbm, 288, rfl⟩
abbrev main_v183 : Ref sig .tc := ⟨.hbm, 289, rfl⟩
abbrev main_c_38 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_cst_39 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩

abbrev nD : Nat := 1
abbrev τ : Topo := Topo.v7x

variable {F : FTy → Type} [FloatOps F]
-- ==== Proof.EncKernelIdeal.lean ====
/- The encoder call: the contents its body leaves in the three outputs, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! The rectangles the body reads and writes. -/

abbrev e0 : Rect S4096x16 := Rect.unit (s := S4096x16) ![0, 0] S4096x16.size inb_S4096x16_S4096x16_0_0
abbrev e1 : Rect S1x16 := Rect.unit (s := S1x16) ![0, 0] S1x16.size inb_S1x16_S1x16_0_0
abbrev e2 : Rect S16x128 := Rect.unit (s := S16x128) ![0, 0] S16x128.size inb_S16x128_S16x128_0_0
abbrev e3 : Rect S1x128 := Rect.unit (s := S1x128) ![0, 0] S1x128.size inb_S1x128_S1x128_0_0
abbrev e4 : Rect S128x128 := Rect.unit (s := S128x128) ![0, 0] S128x128.size inb_S128x128_S128x128_0_0
abbrev e5 : Rect S128x64 := Rect.unit (s := S128x64) ![0, 0] S128x64.size inb_S128x64_S128x64_0_0
abbrev e6 : Rect S1x64 := Rect.unit (s := S1x64) ![0, 0] S1x64.size inb_S1x64_S1x64_0_0
abbrev e7 : Rect S4096x64 := Rect.unit (s := S4096x64) ![0, 0] S4096x64.size inb_S4096x64_S4096x64_0_0
abbrev e8 : Rect S64x128 := Rect.unit (s := S64x128) ![0, 0] S64x128.size inb_S64x128_S64x128_0_0
abbrev e9 : Rect S4096x128 := Rect.unit (s := S4096x128) ![0, 0] S4096x128.size inb_S4096x128_S4096x128_0_0
abbrev e10 : Rect S3x64x64 := Rect.unit (s := S3x64x64) ![0, 0, 0] S1x64x64.size inb_S3x64x64_S1x64x64_0_0_0
abbrev e11 : Rect S3x4096x64 := Rect.unit (s := S3x4096x64) ![0, 0, 0] S1x4096x64.size inb_S3x4096x64_S1x4096x64_0_0_0
abbrev e12 : Rect S3x64x64 := Rect.unit (s := S3x64x64) ![1, 0, 0] S1x64x64.size inb_S3x64x64_S1x64x64_1_0_0
abbrev e13 : Rect S3x4096x64 := Rect.unit (s := S3x4096x64) ![1, 0, 0] S1x4096x64.size inb_S3x4096x64_S1x4096x64_1_0_0
abbrev e14 : Rect S3x64x64 := Rect.unit (s := S3x64x64) ![2, 0, 0] S1x64x64.size inb_S3x64x64_S1x64x64_2_0_0
abbrev e15 : Rect S3x4096x64 := Rect.unit (s := S3x4096x64) ![2, 0, 0] S1x4096x64.size inb_S3x4096x64_S1x4096x64_2_0_0

/-- The hidden features, of the inputs' blocks. -/
def encHid (x0 : Vec F S4096x16 .f32) (x1 : Vec F S1x16 .f32) (x2 : Vec F S1x16 .f32) (x3 : Vec F S16x128 .f32) (x4 : Vec F S1x128 .f32) (x5 : Vec F S128x128 .f32) (x6 : Vec F S1x128 .f32) (x7 : Vec F S128x64 .f32) (x8 : Vec F S1x64 .f32) (x9 : Vec F S64x128 .f32) (x10 : Vec F S1x128 .f32) (x11 : Vec F S3x64x64 .f32) : FVec F S4096x64 .f32 :=
  k0_pay2 (View.ld x0 e0) (View.ld x1 e1) (View.ld x2 e1) (View.ld x3 e2) (View.ld x4 e3) (View.ld x5 e4) (View.ld x6 e3) (View.ld x7 e5) (View.ld x8 e6)

/-- The first output's buffer: the hidden features. -/
def encH (x0 : Vec F S4096x16 .f32) (x1 : Vec F S1x16 .f32) (x2 : Vec F S1x16 .f32) (x3 : Vec F S16x128 .f32) (x4 : Vec F S1x128 .f32) (x5 : Vec F S128x128 .f32) (x6 : Vec F S1x128 .f32) (x7 : Vec F S128x64 .f32) (x8 : Vec F S1x64 .f32) (x9 : Vec F S64x128 .f32) (x10 : Vec F S1x128 .f32) (x11 : Vec F S3x64x64 .f32) : Vec F S4096x64 .f32 :=
  View.canon [⟨e7, encHid x0 x1 x2 x3 x4 x5 x6 x7 x8 x9 x10 x11⟩]

/-- The second output's buffer: both heads side by side. -/
def encHeads (x0 : Vec F S4096x16 .f32) (x1 : Vec F S1x16 .f32) (x2 : Vec F S1x16 .f32) (x3 : Vec F S16x128 .f32) (x4 : Vec F S1x128 .f32) (x5 : Vec F S128x128 .f32) (x6 : Vec F S1x128 .f32) (x7 : Vec F S128x64 .f32) (x8 : Vec F S1x64 .f32) (x9 : Vec F S64x128 .f32) (x10 : Vec F S1x128 .f32) (x11 : Vec F S3x64x64 .f32) : Vec F S4096x128 .f32 :=
  View.canon [⟨e9, k0_pay3 (encHid x0 x1 x2 x3 x4 x5 x6 x7 x8 x9 x10 x11) (View.ld x9 e8) (View.ld x10 e3)⟩]

/-- The third output's buffer: the features through the three bilinear forms, quartered. -/
def encHW (x0 : Vec F S4096x16 .f32) (x1 : Vec F S1x16 .f32) (x2 : Vec F S1x16 .f32) (x3 : Vec F S16x128 .f32) (x4 : Vec F S1x128 .f32) (x5 : Vec F S128x128 .f32) (x6 : Vec F S1x128 .f32) (x7 : Vec F S128x64 .f32) (x8 : Vec F S1x64 .f32) (x9 : Vec F S64x128 .f32) (x10 : Vec F S1x128 .f32) (x11 : Vec F S3x64x64 .f32) : Vec F S3x4096x64 .f32 :=
  View.canon [⟨e15, k0_pay1 (k0_pay6 (encHid x0 x1 x2 x3 x4 x5 x6 x7 x8 x9 x10 x11) (View.ld x11 e14)) (k0_pay7 (F := F))⟩,
    ⟨e13, k0_pay5 (encHid x0 x1 x2 x3 x4 x5 x6 x7 x8 x9 x10 x11) (View.ld x11 e12)⟩,
    ⟨e11, k0_pay4 (encHid x0 x1 x2 x3 x4 x5 x6 x7 x8 x9 x10 x11) (View.ld x11 e10)⟩]

theorem covers_encH (p0 : Vec F S4096x64 .f32) (y : S4096x64.Idx) :
    ∃ pc ∈ ([⟨e7, p0⟩] : List (View.Piece (Elt F) S4096x64 .f32)), y ∈ pc.1.set :=
  View.cover_of_tiled [⟨e7, p0⟩] S4096x64.size (by rfl) y

theorem covers_encHeads (p0 : Vec F S4096x128 .f32) (y : S4096x128.Idx) :
    ∃ pc ∈ ([⟨e9, p0⟩] : List (View.Piece (Elt F) S4096x128 .f32)), y ∈ pc.1.set :=
  View.cover_of_tiled [⟨e9, p0⟩] S4096x128.size (by rfl) y

theorem covers_encHW (p0 p1 p2 : Vec F S1x4096x64 .f32) (y : S3x4096x64.Idx) :
    ∃ pc ∈ ([⟨e15, p0⟩, ⟨e13, p1⟩, ⟨e11, p2⟩] : List (View.Piece (Elt F) S3x4096x64 .f32)), y ∈ pc.1.set :=
  View.cover_of_tiled [⟨e15, p0⟩, ⟨e13, p1⟩, ⟨e11, p2⟩] S1x4096x64.size (by rfl) y

set_option maxHeartbeats 1000000 in
/-- The encoder's body, from buffers holding the inputs: it ends with the inputs as they were and the three outputs computed. -/
theorem body0 (c : Dev nD) (E : Set ℕ) (a0 : Memref sig .tc .vmem S4096x16 .f32) (ha0 : a0.IsWhole) (a1 : Memref sig .tc .vmem S1x16 .f32) (ha1 : a1.IsWhole) (a2 : Memref sig .tc .vmem S1x16 .f32) (ha2 : a2.IsWhole) (a3 : Memref sig .tc .vmem S16x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x64 .f32) (ha7 : a7.IsWhole) (a8 : Memref sig .tc .vmem S1x64 .f32) (ha8 : a8.IsWhole) (a9 : Memref sig .tc .vmem S64x128 .f32) (ha9 : a9.IsWhole) (a10 : Memref sig .tc .vmem S1x128 .f32) (ha10 : a10.IsWhole) (a11 : Memref sig .tc .vmem S3x64x64 .f32) (ha11 : a11.IsWhole) (a12 : Memref sig .tc .vmem S4096x64 .f32) (ha12 : a12.IsWhole) (a13 : Memref sig .tc .vmem S4096x128 .f32) (ha13 : a13.IsWhole) (a14 : Memref sig .tc .vmem S3x4096x64 .f32) (ha14 : a14.IsWhole)
    (x0 : Vec F S4096x16 .f32) (x1 : Vec F S1x16 .f32) (x2 : Vec F S1x16 .f32) (x3 : Vec F S16x128 .f32) (x4 : Vec F S1x128 .f32) (x5 : Vec F S128x128 .f32) (x6 : Vec F S1x128 .f32) (x7 : Vec F S128x64 .f32) (x8 : Vec F S1x64 .f32) (x9 : Vec F S64x128 .f32) (x10 : Vec F S1x128 .f32) (x11 : Vec F S3x64x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ (∃ d, owns (c : Thread nD τ) a12 fullShare d) ∗ (∃ d, owns (c : Thread nD τ) a13 fullShare d) ∗ (∃ d, owns (c : Thread nD τ) a14 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare (encH x0 x1 x2 x3 x4 x5 x6 x7 x8 x9 x10 x11) ∗ owns (c : Thread nD τ) a13 fullShare (encHeads x0 x1 x2 x3 x4 x5 x6 x7 x8 x9 x10 x11) ∗ owns (c : Thread nD τ) a14 fullShare (encHW x0 x1 x2 x3 x4 x5 x6 x7 x8 x9 x10 x11)) -∗ K ⟨⟩))
      ⊢ wp frame (wpE (defs₀ (F := F)) Variants.none c none) E (cc0__enc_kernel a0 ha0 a1 ha1 a2 ha2 a3 ha3 a4 ha4 a5 ha5 a6 ha6 a7 ha7 a8 ha8 a9 ha9 a10 ha10 a11 ha11 a12 ha12 a13 ha13 a14 ha14) K := by
  simp only [cc0__enc_kernel_eq_skeleton]; unfold cc0__enc_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (covers_encH _)).trans ?_
    rfl
  isplitl [H13]
  · iexists _; isplitr
    swap; · iexact H13
    ipureintro
    refine (View.read_writes_eq_canon _ _ _ (covers_encHeads _)).trans ?_
    rfl
  iexists _; isplitr
  swap; · iexact H14
  ipureintro
  refine (View.read_writes_eq_canon _ _ _ (covers_encHW _ _ _)).trans ?_
  rfl

section

-- the buffers' contents when the region is entered
variable (V : (c : Dev nD) → (b : Ref sig .tc) → Buf (Elt F) ((c : Thread nD τ).loc b))

/-- The block of window `w` at point `t`, read off the array the region was entered with. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What each buffer holds after the body at each point: an input its block, an output what the body computes. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => blk0 V c 9 t
    | ⟨10, _⟩ => blk0 V c 10 t
    | ⟨11, _⟩ => blk0 V c 11 t
    | ⟨12, _⟩ => encH (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t)
    | ⟨13, _⟩ => encHeads (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t)
    | ⟨14, _⟩ => encHW (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem left0_0 (c : Dev nD) (t : Fin cfg0.N) : (dat0 V c).after 0 t = blk0 V c 0 t := by dsimp only [dat0]
theorem left0_1 (c : Dev nD) (t : Fin cfg0.N) : (dat0 V c).after 1 t = blk0 V c 1 t := by dsimp only [dat0]
theorem left0_2 (c : Dev nD) (t : Fin cfg0.N) : (dat0 V c).after 2 t = blk0 V c 2 t := by dsimp only [dat0]
theorem left0_3 (c : Dev nD) (t : Fin cfg0.N) : (dat0 V c).after 3 t = blk0 V c 3 t := by dsimp only [dat0]
theorem left0_4 (c : Dev nD) (t : Fin cfg0.N) : (dat0 V c).after 4 t = blk0 V c 4 t := by dsimp only [dat0]
theorem left0_5 (c : Dev nD) (t : Fin cfg0.N) : (dat0 V c).after 5 t = blk0 V c 5 t := by dsimp only [dat0]
theorem left0_6 (c : Dev nD) (t : Fin cfg0.N) : (dat0 V c).after 6 t = blk0 V c 6 t := by dsimp only [dat0]
theorem left0_7 (c : Dev nD) (t : Fin cfg0.N) : (dat0 V c).after 7 t = blk0 V c 7 t := by dsimp only [dat0]
theorem left0_8 (c : Dev nD) (t : Fin cfg0.N) : (dat0 V c).after 8 t = blk0 V c 8 t := by dsimp only [dat0]
theorem left0_9 (c : Dev nD) (t : Fin cfg0.N) : (dat0 V c).after 9 t = blk0 V c 9 t := by dsimp only [dat0]
theorem left0_10 (c : Dev nD) (t : Fin cfg0.N) : (dat0 V c).after 10 t = blk0 V c 10 t := by dsimp only [dat0]
theorem left0_11 (c : Dev nD) (t : Fin cfg0.N) : (dat0 V c).after 11 t = blk0 V c 11 t := by dsimp only [dat0]
theorem left0_12 (c : Dev nD) (t : Fin cfg0.N) : (dat0 V c).after 12 t = encH (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) := by dsimp only [dat0]
theorem left0_13 (c : Dev nD) (t : Fin cfg0.N) : (dat0 V c).after 13 t = encHeads (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) := by dsimp only [dat0]
theorem left0_14 (c : Dev nD) (t : Fin cfg0.N) : (dat0 V c).after 14 t = encHW (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) := by dsimp only [dat0]

-- an input's buffer holds its block when the body starts, fetched at this point or earlier
theorem found0_0 (c : Dev nD) (t : Fin cfg0.N) (d) : (dat0 V c).before 0 t d = blk0 V c 0 t :=
  ((dat0 V c).before_in_eq_fetched 0 rfl (fun _ => rfl) (fun _ _ _ => rfl)
    (fun t => by rw [left0_0]; unfold Dat.blockOf blk0; rw [dat0_A]; try rfl) t d).trans
    (by unfold Dat.fetched Dat.blockOf blk0; rw [dat0_A]; try rfl)
theorem found0_1 (c : Dev nD) (t : Fin cfg0.N) (d) : (dat0 V c).before 1 t d = blk0 V c 1 t :=
  ((dat0 V c).before_in_eq_fetched 1 rfl (fun _ => rfl) (fun _ _ _ => rfl)
    (fun t => by rw [left0_1]; unfold Dat.blockOf blk0; rw [dat0_A]; try rfl) t d).trans
    (by unfold Dat.fetched Dat.blockOf blk0; rw [dat0_A]; try rfl)
theorem found0_2 (c : Dev nD) (t : Fin cfg0.N) (d) : (dat0 V c).before 2 t d = blk0 V c 2 t :=
  ((dat0 V c).before_in_eq_fetched 2 rfl (fun _ => rfl) (fun _ _ _ => rfl)
    (fun t => by rw [left0_2]; unfold Dat.blockOf blk0; rw [dat0_A]; try rfl) t d).trans
    (by unfold Dat.fetched Dat.blockOf blk0; rw [dat0_A]; try rfl)
theorem found0_3 (c : Dev nD) (t : Fin cfg0.N) (d) : (dat0 V c).before 3 t d = blk0 V c 3 t :=
  ((dat0 V c).before_in_eq_fetched 3 rfl (fun _ => rfl) (fun _ _ _ => rfl)
    (fun t => by rw [left0_3]; unfold Dat.blockOf blk0; rw [dat0_A]; try rfl) t d).trans
    (by unfold Dat.fetched Dat.blockOf blk0; rw [dat0_A]; try rfl)
theorem found0_4 (c : Dev nD) (t : Fin cfg0.N) (d) : (dat0 V c).before 4 t d = blk0 V c 4 t :=
  ((dat0 V c).before_in_eq_fetched 4 rfl (fun _ => rfl) (fun _ _ _ => rfl)
    (fun t => by rw [left0_4]; unfold Dat.blockOf blk0; rw [dat0_A]; try rfl) t d).trans
    (by unfold Dat.fetched Dat.blockOf blk0; rw [dat0_A]; try rfl)
theorem found0_5 (c : Dev nD) (t : Fin cfg0.N) (d) : (dat0 V c).before 5 t d = blk0 V c 5 t :=
  ((dat0 V c).before_in_eq_fetched 5 rfl (fun _ => rfl) (fun _ _ _ => rfl)
    (fun t => by rw [left0_5]; unfold Dat.blockOf blk0; rw [dat0_A]; try rfl) t d).trans
    (by unfold Dat.fetched Dat.blockOf blk0; rw [dat0_A]; try rfl)
theorem found0_6 (c : Dev nD) (t : Fin cfg0.N) (d) : (dat0 V c).before 6 t d = blk0 V c 6 t :=
  ((dat0 V c).before_in_eq_fetched 6 rfl (fun _ => rfl) (fun _ _ _ => rfl)
    (fun t => by rw [left0_6]; unfold Dat.blockOf blk0; rw [dat0_A]; try rfl) t d).trans
    (by unfold Dat.fetched Dat.blockOf blk0; rw [dat0_A]; try rfl)
theorem found0_7 (c : Dev nD) (t : Fin cfg0.N) (d) : (dat0 V c).before 7 t d = blk0 V c 7 t :=
  ((dat0 V c).before_in_eq_fetched 7 rfl (fun _ => rfl) (fun _ _ _ => rfl)
    (fun t => by rw [left0_7]; unfold Dat.blockOf blk0; rw [dat0_A]; try rfl) t d).trans
    (by unfold Dat.fetched Dat.blockOf blk0; rw [dat0_A]; try rfl)
theorem found0_8 (c : Dev nD) (t : Fin cfg0.N) (d) : (dat0 V c).before 8 t d = blk0 V c 8 t :=
  ((dat0 V c).before_in_eq_fetched 8 rfl (fun _ => rfl) (fun _ _ _ => rfl)
    (fun t => by rw [left0_8]; unfold Dat.blockOf blk0; rw [dat0_A]; try rfl) t d).trans
    (by unfold Dat.fetched Dat.blockOf blk0; rw [dat0_A]; try rfl)
theorem found0_9 (c : Dev nD) (t : Fin cfg0.N) (d) : (dat0 V c).before 9 t d = blk0 V c 9 t :=
  ((dat0 V c).before_in_eq_fetched 9 rfl (fun _ => rfl) (fun _ _ _ => rfl)
    (fun t => by rw [left0_9]; unfold Dat.blockOf blk0; rw [dat0_A]; try rfl) t d).trans
    (by unfold Dat.fetched Dat.blockOf blk0; rw [dat0_A]; try rfl)
theorem found0_10 (c : Dev nD) (t : Fin cfg0.N) (d) : (dat0 V c).before 10 t d = blk0 V c 10 t :=
  ((dat0 V c).before_in_eq_fetched 10 rfl (fun _ => rfl) (fun _ _ _ => rfl)
    (fun t => by rw [left0_10]; unfold Dat.blockOf blk0; rw [dat0_A]; try rfl) t d).trans
    (by unfold Dat.fetched Dat.blockOf blk0; rw [dat0_A]; try rfl)
theorem found0_11 (c : Dev nD) (t : Fin cfg0.N) (d) : (dat0 V c).before 11 t d = blk0 V c 11 t :=
  ((dat0 V c).before_in_eq_fetched 11 rfl (fun _ => rfl) (fun _ _ _ => rfl)
    (fun t => by rw [left0_11]; unfold Dat.blockOf blk0; rw [dat0_A]; try rfl) t d).trans
    (by unfold Dat.fetched Dat.blockOf blk0; rw [dat0_A]; try rfl)

/-- The state the body is entered with at point `t`, window by window. -/
def enter0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- The state it leaves. -/
def leave0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

theorem step0 (c : Dev nD) (t : Fin cfg0.N) :
    enter0 V c t ⊢ wp frame (wpE (defs₀ (F := F)) Variants.none c none) Set.univ (bodyAt0 t) (fun _ => leave0 V c t) := by
  unfold enter0 leave0 bodyAt0
  simp only [found0_0, found0_1, found0_2, found0_3, found0_4, found0_5, found0_6, found0_7, found0_8, found0_9, found0_10, found0_11]
  rw [show (dat0 V c).Φ t.succ = (dat0 V c).Φ t.castSucc from rfl,
    show (dat0 V c).owesAt () t.succ = (dat0 V c).owesAt () t.castSucc from rfl,
    left0_0, left0_1, left0_2, left0_3, left0_4, left0_5, left0_6, left0_7, left0_8, left0_9, left0_10, left0_11, left0_12, left0_13, left0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body0 c Set.univ _ _ _ _ _ _ _ _ _ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem row0 (t : Fin cfg0.N) :
    defs₀ (F := F) .tc cfg0.body (cfg0.bodyArgs t (cfg0.slots t)) = bodyAt0 t := by
  unfold defs₀; rw [Defs.onTc_tc]

/-- The body does at every point what the pipeline asks of it. -/
theorem obligation0 (c : Dev nD) : BodyObligation (dat0 (F := F) V c) (defs₀ (F := F)) Variants.none () Set.univ := fun t => by
  rw [bigSep_W0, bigSep_W0, row0]
  exact triple_restated (step0 V c t) rfl .rfl fun _ => .rfl

end

end Cert.KernelIdeal.Hand

end
-- ==== Proof.AdjKernelIdeal.lean ====
/- The adjacency call: the contents its body leaves in the output, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! The rectangles the body reads and writes: whole blocks, the output's three slabs, and the diagonal tile of each. -/

abbrev q0 : Rect S128x2 := Rect.unit (s := S128x2) ![0, 0] S128x1.size inb_S128x2_S128x1_0_0
abbrev q1 : Rect S128x2 := Rect.unit (s := S128x2) ![0, 1] S128x1.size inb_S128x2_S128x1_0_1
abbrev q2 : Rect S2x4096 := Rect.unit (s := S2x4096) ![0, 0] S1x4096.size inb_S2x4096_S1x4096_0_0
abbrev q3 : Rect S2x4096 := Rect.unit (s := S2x4096) ![1, 0] S1x4096.size inb_S2x4096_S1x4096_1_0
abbrev q4 : Rect S64x4096 := Rect.unit (s := S64x4096) ![0, 0] S64x4096.size inb_S64x4096_S64x4096_0_0
abbrev q5 : Rect S3x128x64 := Rect.unit (s := S3x128x64) ![0, 0, 0] S3x128x64.size inb_S3x128x64_S3x128x64_0_0_0
abbrev q6 : Rect S3x128x4096 := Rect.unit (s := S3x128x4096) ![0, 0, 0] S1x128x4096.size inb_S3x128x4096_S1x128x4096_0_0_0
abbrev q7 : Rect S3x128x4096 := Rect.unit (s := S3x128x4096) ![1, 0, 0] S1x128x4096.size inb_S3x128x4096_S1x128x4096_1_0_0
abbrev q8 : Rect S3x128x4096 := Rect.unit (s := S3x128x4096) ![2, 0, 0] S1x128x4096.size inb_S3x128x4096_S1x128x4096_2_0_0
abbrev d0 (i : grid1.Coords) : Rect S3x128x4096 := Rect.unit (s := S3x128x4096) (k1_off1 i) S1x128x128.size (k1_off1_inb i)
abbrev d1 (i : grid1.Coords) : Rect S3x128x4096 := Rect.unit (s := S3x128x4096) (k1_off2 i) S1x128x128.size (k1_off2_inb i)
abbrev d2 (i : grid1.Coords) : Rect S3x128x4096 := Rect.unit (s := S3x128x4096) (k1_off3 i) S1x128x128.size (k1_off3_inb i)

/-- Whether some row of the block has more than twenty columns in range: the body's branch. -/
def crowded (x2 : Vec F S128x2 .f32) (x3 : Vec F S2x4096 .f32) : Prop :=
  Scalar.cmpi .ne (Scalar.extui (Scalar.cmpf .ogt (k1_pay30 (View.ld x2 q0) (View.ld x2 q1) (View.ld x3 q2) (View.ld x3 q3)) (Scalar.ofBits .f32 0x41A40000#32)) : BitVec 32) 0#32 = 1#1

instance (x2 : Vec F S128x2 .f32) (x3 : Vec F S2x4096 .f32) : Decidable (crowded x2 x3) := by unfold crowded; infer_instance

/-! The weights before the diagonal is set, slab by slab. -/

def raw0 (x0 : Vec F S3x128x64 .bf16) (x1 : Vec F S64x4096 .bf16) (x2 : Vec F S128x2 .f32) (x3 : Vec F S2x4096 .f32) : Vec F S1x128x4096 .f32 := k1_pay34 (k1_pay27 (View.ld x2 q0) (View.ld x2 q1) (View.ld x3 q2) (View.ld x3 q3)) (k1_pay32 (View.ld x1 q4)) (View.ld x0 q5)
def raw1 (x0 : Vec F S3x128x64 .bf16) (x1 : Vec F S64x4096 .bf16) (x2 : Vec F S128x2 .f32) (x3 : Vec F S2x4096 .f32) : Vec F S1x128x4096 .f32 := k1_pay37 (k1_pay29 (View.ld x2 q0) (View.ld x2 q1) (View.ld x3 q2) (View.ld x3 q3)) (k1_pay32 (View.ld x1 q4)) (View.ld x0 q5)
def raw2 (x0 : Vec F S3x128x64 .bf16) (x1 : Vec F S64x4096 .bf16) (x2 : Vec F S128x2 .f32) (x3 : Vec F S2x4096 .f32) : Vec F S1x128x4096 .f32 := k1_pay3 (k1_pay28 (View.ld x2 q0) (View.ld x2 q1) (View.ld x3 q2) (View.ld x3 q3)) (k1_pay33 (k1_pay32 (View.ld x1 q4)) (View.ld x0 q5))

/-! A diagonal tile with its diagonal set. -/

def diag0 (v : Vec F S1x128x128 .f32) : Vec F S1x128x128 .f32 := k1_pay35 k1_pay31 v
def diag1 (v : Vec F S1x128x128 .f32) : Vec F S1x128x128 .f32 := k1_pay1 (k1_pay38 k1_pay31 v)
def diag2 (v : Vec F S1x128x128 .f32) : Vec F S1x128x128 .f32 := k1_pay4 k1_pay31 v

/-! A slab with all but the top twenty weights of each row dropped. -/

def top0 (v : Vec F S1x128x4096 .f32) : Vec F S1x128x4096 .f32 :=
  k1_pay36 (k1_pay6 v) (k1_pay10 (k1_pay7 v) (k1_pay8 v) (k1_pay9 (F := F))) (k1_pay11 (k1_pay7 v) (k1_pay8 v) (k1_pay9 (F := F)))
def top1 (v : Vec F S1x128x4096 .f32) : Vec F S1x128x4096 .f32 :=
  k1_pay2 (k1_pay12 v) (k1_pay16 (k1_pay13 v) (k1_pay14 v) (k1_pay15 (F := F))) (k1_pay17 (k1_pay13 v) (k1_pay14 v) (k1_pay15 (F := F)))
def top2 (v : Vec F S1x128x4096 .f32) : Vec F S1x128x4096 .f32 :=
  k1_pay5 (k1_pay18 v) (k1_pay22 (k1_pay19 v) (k1_pay20 v) (k1_pay21 (F := F))) (k1_pay23 (k1_pay19 v) (k1_pay20 v) (k1_pay21 (F := F)))

/-- A slab's stores so far, the last first: the weights, and the diagonal tile read back and set. -/
abbrev first (q d : Rect S3x128x4096) (p : q.shape.Idx → Elt F .f32) (g : (d.shape.Idx → Elt F .f32) → (d.shape.Idx → Elt F .f32)) :
    List (View.Piece (Elt F) S3x128x4096 .f32) :=
  [⟨d, g (View.ld (View.canon [⟨q, p⟩]) d)⟩, ⟨q, p⟩]

/-- A slab's stores, the last first; the third is made in a crowded block only. -/
def slab (b : Prop) [Decidable b] (q d : Rect S3x128x4096) (p : q.shape.Idx → Elt F .f32) (g : (d.shape.Idx → Elt F .f32) → (d.shape.Idx → Elt F .f32))
    (h : (q.shape.Idx → Elt F .f32) → (q.shape.Idx → Elt F .f32)) : List (View.Piece (Elt F) S3x128x4096 .f32) :=
  if b then ⟨q, h (View.ld (View.canon (first q d p g)) q)⟩ :: first q d p g else first q d p g

/-- The output's buffer after the body: the three slabs' stores. -/
def adj (i : grid1.Coords) (x0 : Vec F S3x128x64 .bf16) (x1 : Vec F S64x4096 .bf16) (x2 : Vec F S128x2 .f32) (x3 : Vec F S2x4096 .f32) : Vec F S3x128x4096 .f32 :=
  View.canon (slab (crowded x2 x3) q8 (d2 i) (raw2 x0 x1 x2 x3) diag2 top2
    ++ (slab (crowded x2 x3) q7 (d1 i) (raw1 x0 x1 x2 x3) diag1 top1
    ++ slab (crowded x2 x3) q6 (d0 i) (raw0 x0 x1 x2 x3) diag0 top0))

/-- Every element is in one of the three slabs. -/
theorem slab_cases (y : S3x128x4096.Idx) : y ∈ q6.set ∨ y ∈ q7.set ∨ y ∈ q8.set := by
  have h0 : (y 0).val < 3 := (y 0).isLt
  have h1 : (y 1).val < 128 := (y 1).isLt
  have h2 : (y 2).val < 4096 := (y 2).isLt
  have hc : (y 0).val = 0 ∨ (y 0).val = 1 ∨ (y 0).val = 2 := by omega
  rcases hc with h | h | h
  · left; rw [Rect.mem_set_unit]; intro a; fin_cases a <;> simp <;> omega
  · right; left; rw [Rect.mem_set_unit]; intro a; fin_cases a <;> simp <;> omega
  · right; right; rw [Rect.mem_set_unit]; intro a; fin_cases a <;> simp <;> omega

/-- A rectangle of unit steps within another's range on every axis lies in it. -/
theorem unit_sub {s : Shape} (o o' z z' : Fin s.rank → ℕ) (hi : ∀ a, o a + z a ≤ s.size a) (hi' : ∀ a, o' a + z' a ≤ s.size a)
    (hlo : ∀ a, o a ≤ o' a) (hhi : ∀ a, o' a + z' a ≤ o a + z a) (j : (Rect.unit (s := s) o' z' hi').shape.Idx) :
    (Rect.unit (s := s) o' z' hi').emb j ∈ (Rect.unit (s := s) o z hi).set := by
  rw [Rect.mem_set_unit]
  intro a
  have h2 := hlo a; have h3 := hhi a
  have h1 : (j a).val < z' a := (j a).isLt
  have e : (((Rect.unit (s := s) o' z' hi').emb j) a).val = o' a + 1 * (j a).val := rfl
  rw [e]
  omega

theorem tile0_sub (i : grid1.Coords) (j : (d0 i).shape.Idx) : (d0 i).emb j ∈ q6.set := by
  have hb : (i 0).val < 32 := (i 0).isLt
  refine unit_sub _ _ _ _ _ _ ?_ ?_ j <;> rw [k1_off1_eq] <;> intro a <;> fin_cases a <;> simp <;> omega

theorem tile1_sub (i : grid1.Coords) (j : (d1 i).shape.Idx) : (d1 i).emb j ∈ q7.set := by
  have hb : (i 0).val < 32 := (i 0).isLt
  refine unit_sub _ _ _ _ _ _ ?_ ?_ j <;> rw [k1_off2_eq] <;> intro a <;> fin_cases a <;> simp <;> omega

theorem tile2_sub (i : grid1.Coords) (j : (d2 i).shape.Idx) : (d2 i).emb j ∈ q8.set := by
  have hb : (i 0).val < 32 := (i 0).isLt
  refine unit_sub _ _ _ _ _ _ ?_ ?_ j <;> rw [k1_off3_eq] <;> intro a <;> fin_cases a <;> simp <;> omega

section loads

variable (v : View sig .tc .vmem S3x128x4096 .f32) (f : v.ty.Contents (Elt F))

/-- A load through a rectangle the last stores cover reads those stores alone. -/
theorem load_last (r : Rect S3x128x4096) (L₁ L : List (View.Piece (Elt F) S3x128x4096 .f32))
    (h : ∀ j : r.shape.Idx, ∃ pc ∈ L₁, r.emb j ∈ pc.1.set) :
    v.readAt (Elt F) r.toLoadRect (v.writes (Elt F) f (L₁ ++ L)) = View.ld (View.canon L₁) r := by
  rw [View.writes_append]
  funext j
  exact View.read_writes_apply_eq_canon v _ (r.emb j) L₁ (h j)

theorem load_tile (q d : Rect S3x128x4096) (p : q.shape.Idx → Elt F .f32) (L : List (View.Piece (Elt F) S3x128x4096 .f32))
    (h : ∀ j : d.shape.Idx, d.emb j ∈ q.set) :
    v.readAt (Elt F) d.toLoadRect (v.writes (Elt F) f (⟨q, p⟩ :: L)) = View.ld (View.canon [⟨q, p⟩]) d :=
  load_last v f d [⟨q, p⟩] L fun j => ⟨_, List.mem_singleton.mpr rfl, h j⟩

omit f in
theorem load_slab (q d : Rect S3x128x4096) (p : q.shape.Idx → Elt F .f32) (w : d.shape.Idx → Elt F .f32) (L : List (View.Piece (Elt F) S3x128x4096 .f32)) :
    v.readCov (⟨d, w⟩ :: ⟨q, p⟩ :: L) q.toLoadRect = View.ld (View.canon [⟨d, w⟩, ⟨q, p⟩]) q :=
  load_last v v.junk q [⟨d, w⟩, ⟨q, p⟩] L fun j => ⟨⟨q, p⟩, by simp, q.idx_mem j⟩

end loads

theorem piece_eq {r : Rect S3x128x4096} {w w' : r.shape.Idx → Elt F .f32} {L L' : List (View.Piece (Elt F) S3x128x4096 .f32)}
    (h : w = w') (hL : L = L') : (⟨r, w⟩ :: L : List (View.Piece (Elt F) S3x128x4096 .f32)) = ⟨r, w'⟩ :: L' := by rw [h, hL]

theorem covers_adj (b : Prop) [Decidable b] (i : grid1.Coords) (p0 p1 p2 : Vec F S1x128x4096 .f32) (g0 g1 g2) (h0 h1 h2) (y : S3x128x4096.Idx) :
    ∃ pc ∈ slab b q8 (d2 i) p2 g2 h2 ++ (slab b q7 (d1 i) p1 g1 h1 ++ slab b q6 (d0 i) p0 g0 h0), y ∈ pc.1.set := by
  rcases slab_cases y with h | h | h
  · exact ⟨⟨q6, p0⟩, by unfold slab; split <;> simp, h⟩
  · exact ⟨⟨q7, p1⟩, by unfold slab; split <;> simp, h⟩
  · exact ⟨⟨q8, p2⟩, by unfold slab; split <;> simp, h⟩

set_option maxHeartbeats 2000000 in
/-- The adjacency body, from buffers holding the inputs: it ends with the inputs as they were and the output computed. -/
theorem body1 (c : Dev nD) (E : Set ℕ) (i : grid1.Coords) (a0 : Memref sig .tc .vmem S3x128x64 .bf16) (ha0 : a0.IsWhole) (a1 : Memref sig .tc .vmem S64x4096 .bf16) (ha1 : a1.IsWhole) (a2 : Memref sig .tc .vmem S128x2 .f32) (ha2 : a2.IsWhole) (a3 : Memref sig .tc .vmem S2x4096 .f32) (ha3 : a3.IsWhole) (a4 : Memref sig .tc .vmem S3x128x4096 .f32) (ha4 : a4.IsWhole)
    (x0 : Vec F S3x128x64 .bf16) (x1 : Vec F S64x4096 .bf16) (x2 : Vec F S128x2 .f32) (x3 : Vec F S2x4096 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (adj i x0 x1 x2 x3)) -∗ K ⟨⟩))
      ⊢ wp frame (wpE (defs₀ (F := F)) Variants.none c none) E (cc1__adj_kernel i a0 ha0 a1 ha1 a2 ha2 a3 ha3 a4 ha4) K := by
  simp only [cc1__adj_kernel_eq_skeleton]; unfold cc1__adj_kernel_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  by_cases hb : crowded (a2.view.read (Elt F) f2) (a3.view.read (Elt F) f3)
  · have hc := hb
    unfold crowded at hc
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists _; isplitr
    swap; · iexact H4
    ipureintro
    unfold adj
    refine Eq.trans ?_ (View.read_writes_eq_canon a4.view f4 _ (covers_adj _ i _ _ _ _ _ _ _ _ _))
    simp only [slab, if_pos hb, first, List.cons_append, List.nil_append]
    refine congrArg (fun L => a4.view.read (Elt F) (a4.view.writes (Elt F) f4 L)) ?_
    refine piece_eq (congrArg top2 ((load_slab a4.view q8 (d2 i) _ _ _).trans
      (congrArg (fun t => View.ld (View.canon [⟨d2 i, diag2 t⟩, ⟨q8, raw2 (a0.view.read (Elt F) f0) (a1.view.read (Elt F) f1) (a2.view.read (Elt F) f2) (a3.view.read (Elt F) f3)⟩]) q8) (load_tile a4.view f4 q8 (d2 i) _ _ (tile2_sub i))))) ?_
    refine piece_eq (congrArg diag2 (load_tile a4.view f4 q8 (d2 i) _ _ (tile2_sub i))) ?_
    refine piece_eq rfl ?_
    refine piece_eq (congrArg top1 ((load_slab a4.view q7 (d1 i) _ _ _).trans
      (congrArg (fun t => View.ld (View.canon [⟨d1 i, diag1 t⟩, ⟨q7, raw1 (a0.view.read (Elt F) f0) (a1.view.read (Elt F) f1) (a2.view.read (Elt F) f2) (a3.view.read (Elt F) f3)⟩]) q7) (load_tile a4.view f4 q7 (d1 i) _ _ (tile1_sub i))))) ?_
    refine piece_eq (congrArg diag1 (load_tile a4.view f4 q7 (d1 i) _ _ (tile1_sub i))) ?_
    refine piece_eq rfl ?_
    refine piece_eq (congrArg top0 ((load_slab a4.view q6 (d0 i) _ _ _).trans
      (congrArg (fun t => View.ld (View.canon [⟨d0 i, diag0 t⟩, ⟨q6, raw0 (a0.view.read (Elt F) f0) (a1.view.read (Elt F) f1) (a2.view.read (Elt F) f2) (a3.view.read (Elt F) f3)⟩]) q6) (load_tile a4.view f4 q6 (d0 i) _ _ (tile0_sub i))))) ?_
    refine piece_eq (congrArg diag0 (load_tile a4.view f4 q6 (d0 i) _ _ (tile0_sub i))) ?_
    refine piece_eq rfl ?_
    rfl
  · have hc := hb
    unfold crowded at hc
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists _; isplitr
    swap; · iexact H4
    ipureintro
    unfold adj
    refine Eq.trans ?_ (View.read_writes_eq_canon a4.view f4 _ (covers_adj _ i _ _ _ _ _ _ _ _ _))
    simp only [slab, if_neg hb, first, List.cons_append, List.nil_append]
    refine congrArg (fun L => a4.view.read (Elt F) (a4.view.writes (Elt F) f4 L)) ?_
    refine piece_eq (congrArg diag2 (load_tile a4.view f4 q8 (d2 i) _ _ (tile2_sub i))) ?_
    refine piece_eq rfl ?_
    refine piece_eq (congrArg diag1 (load_tile a4.view f4 q7 (d1 i) _ _ (tile1_sub i))) ?_
    refine piece_eq rfl ?_
    refine piece_eq (congrArg diag0 (load_tile a4.view f4 q6 (d0 i) _ _ (tile0_sub i))) ?_
    rfl

section

-- the buffers' contents when the region is entered
variable (V : (c : Dev nD) → (b : Ref sig .tc) → Buf (Elt F) ((c : Thread nD τ).loc b))

/-- The block of window `w` at point `t`, read off the array the region was entered with. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What each buffer holds after the body at each point: an input its block, an output what the body computes. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => adj (grid1.coords t) (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) : (dat1 V c).after 3 t = blk1 V c 3 t := by dsimp only [dat1]
theorem left1_4 (c : Dev nD) (t : Fin cfg1.N) : (dat1 V c).after 4 t = adj (grid1.coords t) (blk1 V c 0 t) (blk1 V c 1 t) (blk1 V c 2 t) (blk1 V c 3 t) := by dsimp only [dat1]

-- an input's buffer holds its block when the body starts, fetched at this point or earlier
theorem found1_0 (c : Dev nD) (t : Fin cfg1.N) (d) : (dat1 V c).before 0 t d = blk1 V c 0 t :=
  ((dat1 V c).before_in_eq_fetched 0 rfl (fun _ => rfl) (fun _ _ _ => rfl)
    (fun t => by rw [left1_0]; unfold Dat.blockOf blk1; rw [dat1_A]; try rfl) t d).trans
    (by unfold Dat.fetched Dat.blockOf blk1; rw [dat1_A]; try rfl)
theorem found1_1 (c : Dev nD) (t : Fin cfg1.N) (d) : (dat1 V c).before 1 t d = blk1 V c 1 t :=
  ((dat1 V c).before_in_eq_fetched 1 rfl (fun _ => rfl) (fun _ _ _ => rfl)
    (fun t => by rw [left1_1]; unfold Dat.blockOf blk1; rw [dat1_A]; try rfl) t d).trans
    (by unfold Dat.fetched Dat.blockOf blk1; rw [dat1_A]; try rfl)
theorem found1_2 (c : Dev nD) (t : Fin cfg1.N) (d) : (dat1 V c).before 2 t d = blk1 V c 2 t :=
  ((dat1 V c).before_in_eq_fetched 2 rfl (fun _ => rfl) (fun _ _ _ => rfl)
    (fun t => by rw [left1_2]; unfold Dat.blockOf blk1; rw [dat1_A]; try rfl) t d).trans
    (by unfold Dat.fetched Dat.blockOf blk1; rw [dat1_A]; try rfl)
theorem found1_3 (c : Dev nD) (t : Fin cfg1.N) (d) : (dat1 V c).before 3 t d = blk1 V c 3 t :=
  ((dat1 V c).before_in_eq_fetched 3 rfl (fun _ => rfl) (fun _ _ _ => rfl)
    (fun t => by rw [left1_3]; unfold Dat.blockOf blk1; rw [dat1_A]; try rfl) t d).trans
    (by unfold Dat.fetched Dat.blockOf blk1; rw [dat1_A]; try rfl)

/-- The state the body is entered with at point `t`, window by window. -/
def enter1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- The state it leaves. -/
def leave1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem step1 (c : Dev nD) (t : Fin cfg1.N) :
    enter1 V c t ⊢ wp frame (wpE (defs₀ (F := F)) Variants.none c none) Set.univ (bodyAt1 t) (fun _ => leave1 V c t) := by
  unfold enter1 leave1 bodyAt1
  simp only [found1_0, found1_1, found1_2, found1_3]
  rw [show (dat1 V c).Φ t.succ = (dat1 V c).Φ t.castSucc from rfl,
    show (dat1 V c).owesAt () t.succ = (dat1 V c).owesAt () t.castSucc from rfl,
    left1_0, left1_1, left1_2, left1_3, left1_4]
  iintro ⟨HΦ, Ho, ⟨%d0, H0⟩, ⟨%d1, H1⟩, ⟨%d2, H2⟩, ⟨%d3, H3⟩, ⟨%d4, H4⟩⟩
  iapply (body1 c Set.univ (grid1.coords t) _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row1 (t : Fin cfg1.N) :
    defs₀ (F := F) .tc cfg1.body (cfg1.bodyArgs t (cfg1.slots t)) = bodyAt1 t := by
  unfold defs₀; rw [Defs.onTc_tc]

/-- The body does at every point what the pipeline asks of it. -/
theorem obligation1 (c : Dev nD) : BodyObligation (dat1 (F := F) V c) (defs₀ (F := F)) Variants.none () Set.univ := fun t => by
  rw [bigSep_W1, bigSep_W1, row1]
  exact triple_restated (step1 V c t) rfl .rfl fun _ => .rfl

end

end Cert.KernelIdeal.Hand

end
-- ==== Proof.RunKernelIdeal.lean ====
/- The whole run: host operations, the encoder call, host operations, the adjacency call. It ends with each buffer at a named value. -/
module

public import proofs.«01_k».proof.Proof.EncKernelIdeal
public import proofs.«01_k».proof.Proof.AdjKernelIdeal
public import proofs.«01_k».proof.Proof.Gen.KernelIdeal.Regions

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14]

theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)

/-! The buffers of a core between the items of the program. -/

/-- At launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
/-- After the first host operations. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)
abbrev V1 : (c : Dev nD) → (b : Ref sig .tc) → Buf (Elt F) ((c : Thread nD τ).loc b) := fun c b => W1 m c b
/-- After the encoder call. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (dat0_A (V1 m) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host operations. -/
abbrev W3 : Dev nD → Valuation τ sig (Elt F) := fun c => StableHlo.after hostOps1 (W2 m c)
theorem W3_of (c : Dev nD) (r : Ref sig .tc) (h : r ∉ hostOps1_W) : W3 m c (Proc.devRef .tc r) = W2 m c (Proc.devRef .tc r) :=
  StableHlo.after_of_writes_sub hostOps1 _ hostOps1_writes h
theorem W3_args (c : Dev nD) : ∀ a ∈ argRefs, W3 m c (Proc.devRef .tc a) = m ((c : Thread nD τ).loc a) :=
  fun a ha => (W3_of m c a (hostOps1_args a ha)).trans (W2_args m c a ha)
abbrev V3 : (c : Dev nD) → (b : Ref sig .tc) → Buf (Elt F) ((c : Thread nD τ).loc b) := fun c b => W3 m c b
/-- After the adjacency call: the end. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (V3 m) c).arrAt_in w (h w rfl) _).trans (dat1_A (V3 m) c w))
  · exact W4_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m c (Proc.devRef .tc a) = m ((c : Thread nD τ).loc a) :=
  fun a ha => (W4_of m c a (argsIn1 a ha)).trans (W3_args m c a ha)
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! The launch: the proof data of the two calls, the calls as segments, and the program as the run of its segments. -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (dat0_A (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (dat1_A (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

theorem no_unscoped : ∀ sm : SemLoc sig, sm.isScoped .tc = true := by decide

set_option backward.isDefEq.respectTransparency.types false in
/-- The program ends, every buffer outside the calls' own at its named value and every counter at zero. -/
theorem run : θ_run defs (onTc (τ := τ) (main (F := F))) ⟨m, fun _ => 0, ρ⟩ (fun r => (∀ c : Dev nD, ∀ b ∈ Pipeline.ucRefs τ sig, r.2.mem (c, b) = W4 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (.inr (no_unscoped g.2))⟩)

/-- Every argument ends as launched, and every counter at zero. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun s h => ⟨fun c =>
    have k : ∀ a ∈ argRefs, ¬ (Proc.devRef .tc a : DevRef τ sig).isScoped → s.2.mem ((c.tc : Thread nD τ).loc a) = m ((c.tc : Thread nD τ).loc a) :=
      fun a ha hs => (h.1 c _ (mem_uc a hs)).trans (W4_args m c a ha)
    ⟨k main_arg0 (by decide) (by decide),
     k main_arg1 (by decide) (by decide),
     k main_arg2 (by decide) (by decide),
     k main_arg3 (by decide) (by decide),
     k main_arg4 (by decide) (by decide),
     k main_arg5 (by decide) (by decide),
     k main_arg6 (by decide) (by decide),
     k main_arg7 (by decide) (by decide),
     k main_arg8 (by decide) (by decide),
     k main_arg9 (by decide) (by decide),
     k main_arg10 (by decide) (by decide),
     k main_arg11 (by decide) (by decide),
     k main_arg12 (by decide) (by decide),
     k main_arg13 (by decide) (by decide),
     k main_arg14 (by decide) (by decide)⟩, h.2⟩) (run m ρ)

end Cert.KernelIdeal.Hand

end
-- ==== Proof.HostRead.lean ====
/- What the host operations around the two calls leave in the buffers the calls read. -/
module

public import proofs.«01_k».proof.Proof.RunKernelIdeal
public import Idealize.ShloMosaic.Lib.StableHlo.Run

@[expose] public section

set_option maxRecDepth 16384

noncomputable section

namespace Cert.KernelIdeal.Hand

open Idealize.ShloMosaic Idealize.ShloMosaic.TcCoe
open Idealize.SL.Sem
open Cert.KernelIdeal Cert.KernelIdeal.Gen

variable (m : (ℓ : Loc nD τ sig) → Buf (Elt Ideal) ℓ)

/-- The argument arrays at launch. -/
abbrev arg (c : Dev nD) (r : Ref sig .tc) : Buf (Elt Ideal) ((c : Thread nD τ).loc r) := m ((c : Thread nD τ).loc r)

/-- The start columns of the two heads. -/
def colAt (n : BitVec 32) : (⟨S1, .i32⟩ : BufTy).Contents (Elt Ideal) := broadcastInDim S1 ![] bcast_S_S1 (constantI S_ 32 n)
/-- The start row and column of the two heads' biases. -/
def cellAt (n : BitVec 32) : (⟨S2, .i32⟩ : BufTy).Contents (Elt Ideal) :=
  concatenate S2 0 [⟨S1, colAt 0#32⟩, ⟨S1, colAt n⟩] concatenates_S1_S1_S2_d0
/-- Both heads' weights side by side. -/
def headW (a b : Vec Ideal S64x3 .f32) : Vec Ideal S64x128 .f32 :=
  Host.scatter scatter_S64x128_S1_S64x3_01_n_1_0 (fun _ b => b)
    (Host.scatter scatter_S64x128_S1_S64x3_01_n_1_0 (fun _ b => b)
      (broadcastInDim S64x128 ![] bcast_S_S64x128 (constant (F := Ideal) S_ .f32 0x00000000#32)) (colAt 0#32) a) (colAt 64#32) b
/-- Both heads' biases side by side. -/
def headB (a b : Vec Ideal S3 .f32) : Vec Ideal S1x128 .f32 :=
  Host.scatter scatter_S1x128_S2_S3_0_0_01_0 (fun _ b => b)
    (Host.scatter scatter_S1x128_S2_S3_0_0_01_0 (fun _ b => b)
      (broadcastInDim S1x128 ![] bcast_S_S1x128 (constant (F := Ideal) S_ .f32 0x00000000#32)) (cellAt 0#32) a) (cellAt 64#32) b

theorem W1_means (c : Dev nD) : W1 m c main_call0_v14 = shapeCast S1x16 (arg m c main_arg2) shapeCasts_S16_S1x16 := by
  show StableHlo.after hostOps0 _ (Proc.devRef .tc main_call0_v14) = _
  after_results
  rfl
theorem W1_stds (c : Dev nD) : W1 m c main_call0_v15 = shapeCast S1x16 (arg m c main_arg3) shapeCasts_S16_S1x16 := by
  show StableHlo.after hostOps0 _ (Proc.devRef .tc main_call0_v15) = _
  after_results
  rfl
theorem W1_b1 (c : Dev nD) : W1 m c main_call0_v16 = shapeCast S1x128 (arg m c main_arg5) shapeCasts_S128_S1x128 := by
  show StableHlo.after hostOps0 _ (Proc.devRef .tc main_call0_v16) = _
  after_results
  rfl
theorem W1_b2 (c : Dev nD) : W1 m c main_call0_v17 = shapeCast S1x128 (arg m c main_arg7) shapeCasts_S128_S1x128 := by
  show StableHlo.after hostOps0 _ (Proc.devRef .tc main_call0_v17) = _
  after_results
  rfl
set_option maxHeartbeats 4000000 in
theorem W1_b3 (c : Dev nD) : W1 m c main_call0_v18 = shapeCast S1x64 (arg m c main_arg9) shapeCasts_S64_S1x64 := by
  show StableHlo.after hostOps0 _ (Proc.devRef .tc main_call0_v18) = _
  after_results
  rfl
set_option maxHeartbeats 4000000 in
theorem W1_headW (c : Dev nD) : W1 m c main_call0_v4 = headW (arg m c main_arg10) (arg m c main_arg13) := by
  show StableHlo.after hostOps0 _ (Proc.devRef .tc main_call0_v4) = _
  after_results
  unfold headW colAt
  rfl
set_option maxHeartbeats 4000000 in
theorem W1_headB (c : Dev nD) : W1 m c main_call0_v13 = headB (arg m c main_arg11) (arg m c main_arg14) := by
  show StableHlo.after hostOps0 _ (Proc.devRef .tc main_call0_v13) = _
  after_results
  unfold headB cellAt colAt
  rfl

theorem W3_first (c : Dev nD) : W3 m c main_v0_1 = extractStridedSlice S4096x3 ![0, 0] (W2 m c main_call0_v19_1) slices_S4096x128_S4096x3_0_0 := by
  show StableHlo.after hostOps1 _ (Proc.devRef .tc main_v0_1) = _
  after_results
  rfl
theorem W3_second (c : Dev nD) : W3 m c main_v0_3 = extractStridedSlice S4096x3 ![0, 64] (W2 m c main_call0_v19_1) slices_S4096x128_S4096x3_0_64 := by
  show StableHlo.after hostOps1 _ (Proc.devRef .tc main_v0_3) = _
  after_results
  rfl
theorem W3_forms (c : Dev nD) : @Eq (FVec Ideal S3x4096x64 .bf16) (W3 m c main_call0_v22)
    (truncf .bf16 (W2 m c main_call0_v19_2 : FVec Ideal S3x4096x64 .f32) bitsLt_bf16_f32) := by
  show StableHlo.after hostOps1 _ (Proc.devRef .tc main_call0_v22) = _
  after_results
  rfl
theorem W3_feats (c : Dev nD) : @Eq (FVec Ideal S64x4096 .bf16) (W3 m c main_call0_v24)
    (truncf .bf16 (transpose S64x4096 [1, 0] (W2 m c main_v0_0 : FVec Ideal S4096x64 .f32) transposes_S4096x64_S64x4096_1_0) bitsLt_bf16_f32) := by
  show StableHlo.after hostOps1 _ (Proc.devRef .tc main_call0_v24) = _
  after_results
  rfl
theorem W3_places (c : Dev nD) : (W3 m c main_call0_v25 : Vec Ideal S2x4096 .f32)
    = transpose S2x4096 [1, 0] (arg m c main_arg1 : FVec Ideal S4096x2 .f32) transposes_S4096x2_S2x4096_1_0 := by
  show StableHlo.after hostOps1 _ (Proc.devRef .tc main_call0_v25) = _
  after_results
  rw [W2_args m c main_arg1 (by decide)]
  rfl

end Cert.KernelIdeal.Hand

end
-- ==== Proof.Region0.lean ====
/- What the encoder call leaves in its three result arrays. -/
module

public import proofs.«01_k».proof.Proof.HostRead
public import Idealize.ShloMosaic.Lib.Pipeline.ValueKit

@[expose] public section

set_option maxRecDepth 16384

noncomputable section

namespace Cert.KernelIdeal.Hand

open Idealize.ShloMosaic Idealize.ShloMosaic.TcCoe
open Idealize.SL.Sem
open Idealize.ShloMosaic.Pipeline
open Cert.KernelIdeal Cert.KernelIdeal.Gen

variable (V : (c : Dev nD) → (b : Ref sig .tc) → Buf (Elt Ideal) ((c : Thread nD τ).loc b))

/-- The call's one point. -/
abbrev only : Fin cfg0.N := ⟨0, by decide +kernel⟩

/-! Each input's block is its whole array. -/

theorem place0_0 : ∀ t : Fin cfg0.N, win0_0.index t = ![0, 0] := (by decide +kernel : ∀ t : Fin grid0.N, _)
theorem whole0_0 (c : Dev nD) : (blk0 V c 0 only : Vec Ideal S4096x16 .f32) = V c main_arg0 := by
  blk_ext! [blk0, place0_0 only]
theorem place0_1 : ∀ t : Fin cfg0.N, win0_1.index t = ![0, 0] := (by decide +kernel : ∀ t : Fin grid0.N, _)
theorem whole0_1 (c : Dev nD) : (blk0 V c 1 only : Vec Ideal S1x16 .f32) = V c main_call0_v14 := by
  blk_ext! [blk0, place0_1 only]
theorem place0_2 : ∀ t : Fin cfg0.N, win0_2.index t = ![0, 0] := (by decide +kernel : ∀ t : Fin grid0.N, _)
theorem whole0_2 (c : Dev nD) : (blk0 V c 2 only : Vec Ideal S1x16 .f32) = V c main_call0_v15 := by
  blk_ext! [blk0, place0_2 only]
theorem place0_3 : ∀ t : Fin cfg0.N, win0_3.index t = ![0, 0] := (by decide +kernel : ∀ t : Fin grid0.N, _)
theorem whole0_3 (c : Dev nD) : (blk0 V c 3 only : Vec Ideal S16x128 .f32) = V c main_arg4 := by
  blk_ext! [blk0, place0_3 only]
theorem place0_4 : ∀ t : Fin cfg0.N, win0_4.index t = ![0, 0] := (by decide +kernel : ∀ t : Fin grid0.N, _)
theorem whole0_4 (c : Dev nD) : (blk0 V c 4 only : Vec Ideal S1x128 .f32) = V c main_call0_v16 := by
  blk_ext! [blk0, place0_4 only]
theorem place0_5 : ∀ t : Fin cfg0.N, win0_5.index t = ![0, 0] := (by decide +kernel : ∀ t : Fin grid0.N, _)
theorem whole0_5 (c : Dev nD) : (blk0 V c 5 only : Vec Ideal S128x128 .f32) = V c main_arg6 := by
  blk_ext! [blk0, place0_5 only]
theorem place0_6 : ∀ t : Fin cfg0.N, win0_6.index t = ![0, 0] := (by decide +kernel : ∀ t : Fin grid0.N, _)
theorem whole0_6 (c : Dev nD) : (blk0 V c 6 only : Vec Ideal S1x128 .f32) = V c main_call0_v17 := by
  blk_ext! [blk0, place0_6 only]
theorem place0_7 : ∀ t : Fin cfg0.N, win0_7.index t = ![0, 0] := (by decide +kernel : ∀ t : Fin grid0.N, _)
theorem whole0_7 (c : Dev nD) : (blk0 V c 7 only : Vec Ideal S128x64 .f32) = V c main_arg8 := by
  blk_ext! [blk0, place0_7 only]
theorem place0_8 : ∀ t : Fin cfg0.N, win0_8.index t = ![0, 0] := (by decide +kernel : ∀ t : Fin grid0.N, _)
theorem whole0_8 (c : Dev nD) : (blk0 V c 8 only : Vec Ideal S1x64 .f32) = V c main_call0_v18 := by
  blk_ext! [blk0, place0_8 only]
theorem place0_9 : ∀ t : Fin cfg0.N, win0_9.index t = ![0, 0] := (by decide +kernel : ∀ t : Fin grid0.N, _)
theorem whole0_9 (c : Dev nD) : (blk0 V c 9 only : Vec Ideal S64x128 .f32) = V c main_call0_v4 := by
  blk_ext! [blk0, place0_9 only]
theorem place0_10 : ∀ t : Fin cfg0.N, win0_10.index t = ![0, 0] := (by decide +kernel : ∀ t : Fin grid0.N, _)
theorem whole0_10 (c : Dev nD) : (blk0 V c 10 only : Vec Ideal S1x128 .f32) = V c main_call0_v13 := by
  blk_ext! [blk0, place0_10 only]
theorem place0_11 : ∀ t : Fin cfg0.N, win0_11.index t = ![0, 0, 0] := (by decide +kernel : ∀ t : Fin grid0.N, _)
theorem whole0_11 (c : Dev nD) : (blk0 V c 11 only : Vec Ideal S3x64x64 .f32) = V c main_arg12 := by
  blk_ext! [blk0, place0_11 only]

/-! Each output's array is what the body leaves at that point. -/

def hidAt (c : Dev nD) : Vec Ideal S4096x64 .f32 :=
  encH (blk0 V c 0 only) (blk0 V c 1 only) (blk0 V c 2 only) (blk0 V c 3 only) (blk0 V c 4 only) (blk0 V c 5 only) (blk0 V c 6 only) (blk0 V c 7 only) (blk0 V c 8 only) (blk0 V c 9 only) (blk0 V c 10 only) (blk0 V c 11 only)
def headsAt (c : Dev nD) : Vec Ideal S4096x128 .f32 :=
  encHeads (blk0 V c 0 only) (blk0 V c 1 only) (blk0 V c 2 only) (blk0 V c 3 only) (blk0 V c 4 only) (blk0 V c 5 only) (blk0 V c 6 only) (blk0 V c 7 only) (blk0 V c 8 only) (blk0 V c 9 only) (blk0 V c 10 only) (blk0 V c 11 only)
def formsAt (c : Dev nD) : Vec Ideal S3x4096x64 .f32 :=
  encHW (blk0 V c 0 only) (blk0 V c 1 only) (blk0 V c 2 only) (blk0 V c 3 only) (blk0 V c 4 only) (blk0 V c 5 only) (blk0 V c 6 only) (blk0 V c 7 only) (blk0 V c 8 only) (blk0 V c 9 only) (blk0 V c 10 only) (blk0 V c 11 only)

theorem left_hidAt (c : Dev nD) : (dat0 V c).after 12 only = hidAt V c := left0_12 V c only
theorem whole_hidAt : (cfg0.win 12).WholeAt only := by decide +kernel
theorem region0_hidAt (c : Dev nD) : (dat0 V c).arrAt 12 cfg0.N = hidAt V c := by
  refine (dat0 V c).arrAt_eq_of_after_last 12 only whole_hidAt _ fun j => ?_
  rw [left_hidAt]
  refine (eq_of_heq (cast_heq _ _)).trans ?_
  exact congrArg (hidAt V c) (funext fun a => Fin.ext rfl)

theorem left_headsAt (c : Dev nD) : (dat0 V c).after 13 only = headsAt V c := left0_13 V c only
theorem whole_headsAt : (cfg0.win 13).WholeAt only := by decide +kernel
theorem region0_headsAt (c : Dev nD) : (dat0 V c).arrAt 13 cfg0.N = headsAt V c := by
  refine (dat0 V c).arrAt_eq_of_after_last 13 only whole_headsAt _ fun j => ?_
  rw [left_headsAt]
  refine (eq_of_heq (cast_heq _ _)).trans ?_
  exact congrArg (headsAt V c) (funext fun a => Fin.ext rfl)

theorem left_formsAt (c : Dev nD) : (dat0 V c).after 14 only = formsAt V c := left0_14 V c only
theorem whole_formsAt : (cfg0.win 14).WholeAt only := by decide +kernel
theorem region0_formsAt (c : Dev nD) : (dat0 V c).arrAt 14 cfg0.N = formsAt V c := by
  refine (dat0 V c).arrAt_eq_of_after_last 14 only whole_formsAt _ fun j => ?_
  rw [left_formsAt]
  refine (eq_of_heq (cast_heq _ _)).trans ?_
  exact congrArg (formsAt V c) (funext fun a => Fin.ext rfl)

end Cert.KernelIdeal.Hand

end
-- ==== Proof.Heads.lean ====
/- The two heads' weights and biases laid side by side, read at the columns the kernel uses. -/
module

public import proofs.«01_k».proof.Proof.HostRead
public import Idealize.ShloMosaic.Lib.Routing.OpsSet
public import Idealize.ShloMosaic.Lib.Pipeline.Value

@[expose] public section

set_option maxRecDepth 16384

noncomputable section

namespace Cert.KernelIdeal.Hand

open Idealize.ShloMosaic Idealize.ShloMosaic.TcCoe
open Idealize.ShloMosaic.Pipeline Idealize.ShloMosaic.ValueIdx
open Cert.KernelIdeal Cert.KernelIdeal.Gen

theorem colAt_apply (n : BitVec 32) (i : S1.Idx) : colAt n i = n := by
  unfold colAt
  exact broadcastInDim_apply _ _ _ i (fun a => a.elim0) (fun a => a.elim0)
theorem cellAt_zero (n : BitVec 32) : (cellAt n : IVec S2 32) (ix1 (0 : Fin 2)) = 0#32 := by
  unfold cellAt
  exact colAt_apply 0#32 (ix1 (0 : Fin 1))
theorem cellAt_one (n : BitVec 32) : (cellAt n : IVec S2 32) (ix1 (1 : Fin 2)) = n := by
  unfold cellAt
  exact colAt_apply n (ix1 (0 : Fin 1))

theorem landsW (n : BitVec 32) (e : Fin 64) (q : Fin 3) (r : Fin 64) (j : Fin 128) :
    scatter_S64x128_S1_S64x3_01_n_1_0.resultIdx? (ix2 e q) (colAt n) = some (ix2 r j) ↔ r = e ∧ n.toInt + q.val = j.val := by
  refine (Routing.resultIdx?_ix2 scatter_S64x128_S1_S64x3_01_n_1_0 _ _ _ _).trans ?_
  have h0 : scatter_S64x128_S1_S64x3_01_n_1_0.start (ix2 e q) (colAt n) 0 = 0 := rfl
  have h1 : scatter_S64x128_S1_S64x3_01_n_1_0.start (ix2 e q) (colAt n) 1 = n.toInt := by
    rw [← colAt_apply n (ix1 (0 : Fin 1))]; rfl
  have w0 : scatter_S64x128_S1_S64x3_01_n_1_0.window (ix2 e q) 0 = e.val := rfl
  have w1 : scatter_S64x128_S1_S64x3_01_n_1_0.window (ix2 e q) 1 = q.val := rfl
  rw [h0, h1, w0, w1]
  constructor
  · rintro ⟨a, b⟩; exact ⟨Fin.ext (by omega), b⟩
  · rintro ⟨rfl, b⟩; exact ⟨by omega, b⟩

theorem landsB (n : BitVec 32) (q : Fin 3) (r : Fin 1) (j : Fin 128) :
    scatter_S1x128_S2_S3_0_0_01_0.resultIdx? (ix1 q) (cellAt n) = some (ix2 r j) ↔ n.toInt + q.val = j.val := by
  refine (Routing.resultIdx?_ix2 scatter_S1x128_S2_S3_0_0_01_0 _ _ _ _).trans ?_
  have h0 : scatter_S1x128_S2_S3_0_0_01_0.start (ix1 q) (cellAt n) 0 = 0 := by
    refine Eq.trans ?_ (congrArg BitVec.toInt (cellAt_zero n))
    rfl
  have h1 : scatter_S1x128_S2_S3_0_0_01_0.start (ix1 q) (cellAt n) 1 = n.toInt := by
    refine Eq.trans ?_ (congrArg BitVec.toInt (cellAt_one n))
    rfl
  have w0 : scatter_S1x128_S2_S3_0_0_01_0.window (ix1 q) 0 = 0 := rfl
  have w1 : scatter_S1x128_S2_S3_0_0_01_0.window (ix1 q) 1 = q.val := rfl
  rw [h0, h1, w0, w1]
  have := r.isLt
  constructor
  · rintro ⟨a, b⟩; exact b
  · intro b; exact ⟨by omega, b⟩

theorem eta2 {a b : ℕ} (k : (⟨2, ![a, b]⟩ : Shape).Idx) : ∃ (e : Fin a) (q : Fin b), k = ix2 e q :=
  ⟨k 0, k 1, by funext x; match x with | ⟨0, _⟩ => rfl | ⟨1, _⟩ => rfl⟩
theorem eta1 {a : ℕ} (k : (⟨1, ![a]⟩ : Shape).Idx) : ∃ e : Fin a, k = ix1 e :=
  ⟨k 0, by funext x; match x with | ⟨0, _⟩ => rfl⟩

theorem headW_second (a b : Vec Ideal S64x3 .f32) (e : Fin 64) (q : Fin 3) : headW a b (ix2 e (⟨64 + q.val, by have := q.isLt; omega⟩ : Fin 128)) = b (ix2 e q) := by
  unfold headW
  refine Routing.scatter_set_hit _ _ _ _ _ _ (fun k hk => ?_) (ix2 e q) ((landsW _ _ _ _ _).2 ⟨rfl, rfl⟩)
  obtain ⟨e', q', rfl⟩ := eta2 k
  obtain ⟨rfl, h⟩ := (landsW _ _ _ _ _).1 hk
  have h' : (64 : ℤ) + q'.val = ((64 + q.val : ℕ) : ℤ) := h
  rw [show q' = q from Fin.ext (by omega)]
theorem headW_first (a b : Vec Ideal S64x3 .f32) (e : Fin 64) (q : Fin 3) : headW a b (ix2 e (⟨q.val, by have := q.isLt; omega⟩ : Fin 128)) = a (ix2 e q) := by
  unfold headW
  refine (Routing.scatter_set_miss _ _ _ _ _ (fun k hk => ?_)).trans ?_
  · obtain ⟨e', q', rfl⟩ := eta2 k
    obtain ⟨_, h⟩ := (landsW _ _ _ _ _).1 hk
    have h' : (64 : ℤ) + q'.val = (q.val : ℤ) := h
    have := q.isLt
    omega
  · refine Routing.scatter_set_hit _ _ _ _ _ _ (fun k hk => ?_) (ix2 e q) ((landsW _ _ _ _ _).2 ⟨rfl, by simp⟩)
    obtain ⟨e', q', rfl⟩ := eta2 k
    obtain ⟨rfl, h⟩ := (landsW _ _ _ _ _).1 hk
    have h' : (0 : ℤ) + q'.val = (q.val : ℤ) := h
    rw [show q' = q from Fin.ext (by omega)]
theorem headB_second (a b : Vec Ideal S3 .f32) (q : Fin 3) : headB a b (ix2 (0 : Fin 1) (⟨64 + q.val, by have := q.isLt; omega⟩ : Fin 128)) = b (ix1 q) := by
  unfold headB
  refine Routing.scatter_set_hit _ _ _ _ _ _ (fun k hk => ?_) (ix1 q) ((landsB _ _ _ _).2 rfl)
  obtain ⟨q', rfl⟩ := eta1 k
  have h' : (64 : ℤ) + q'.val = ((64 + q.val : ℕ) : ℤ) := (landsB _ _ _ _).1 hk
  rw [show q' = q from Fin.ext (by omega)]
theorem headB_first (a b : Vec Ideal S3 .f32) (q : Fin 3) : headB a b (ix2 (0 : Fin 1) (⟨q.val, by have := q.isLt; omega⟩ : Fin 128)) = a (ix1 q) := by
  unfold headB
  refine (Routing.scatter_set_miss _ _ _ _ _ (fun k hk => ?_)).trans ?_
  · obtain ⟨q', rfl⟩ := eta1 k
    have h' : (64 : ℤ) + q'.val = (q.val : ℤ) := (landsB _ _ _ _).1 hk
    have := q.isLt
    omega
  · refine Routing.scatter_set_hit _ _ _ _ _ _ (fun k hk => ?_) (ix1 q) ((landsB _ _ _ _).2 (by simp))
    obtain ⟨q', rfl⟩ := eta1 k
    have h' : (0 : ℤ) + q'.val = (q.val : ℤ) := (landsB _ _ _ _).1 hk
    rw [show q' = q from Fin.ext (by omega)]

end Cert.KernelIdeal.Hand

end
-- ==== Proof.Feat.lean ====
/- The encoder's values: the hidden features, both heads and the quartered bilinear forms, against the reference's stages. -/
module

public import proofs.«01_k».proof.Proof.Region0
public import proofs.«01_k».proof.Proof.Heads
public import proofs.«01_k».proof.Proof.Gen.ReferenceIdeal.Read
public import Idealize.ShloMosaic.Lib.KernelVsHost
public import Idealize.ShloMosaic.Lib.MatmulPlain
public import Idealize.ShloMosaic.Lib.ValueLayout
public import Idealize.ShloMosaic.Lib.ValueLayoutCasts

@[expose] public section

set_option maxRecDepth 16384

noncomputable section

namespace Cert.KernelIdeal.Hand

open Idealize.ShloMosaic hiding ix1 ix2 ix3 addf_apply subf_apply mulf_apply maximumf_apply
open Idealize.ShloMosaic.TcCoe
open Idealize.SL.Sem
open Idealize.ShloMosaic.Pipeline Idealize.ShloMosaic.ValueIdx
open Cert.KernelIdeal Cert.KernelIdeal.Gen
open Cert.ReferenceIdeal.Read

/-! A vector laid along every row. -/

theorem same_apply {s : Shape} {α : Type} (x : s.Idx → α) (h : s.ShapeCasts s) (i : s.Idx) : shapeCast s x h i = x i := shapeCast_apply x h i i rfl

section

variable (a0 : Vec Ideal S4096x16 .f32) (a2 a3 : Vec Ideal S16 .f32) (a4 : Vec Ideal S16x128 .f32) (a5 : Vec Ideal S128 .f32)
  (a6 : Vec Ideal S128x128 .f32) (a7 : Vec Ideal S128 .f32) (a8 : Vec Ideal S128x64 .f32) (a9 : Vec Ideal S64 .f32)

theorem stage_norm (r : Fin 4096) (j : Fin 16) : val_main_v7 (F := Ideal) a0 a2 a3 (ix2 r j)
    = Ideal.div (a0 (ix2 r j) - a2 (ix1 j)) (a3 (ix1 j) + Ideal.ofBits .f32 0x358637BD#32) := by
  rw [val_main_v7_apply, val_main_v2_apply, val_main_v1_apply, val_main_v0_apply, val_main_v6_apply, val_main_v5_apply, val_main_v4_apply,
    val_main_v3_apply, val_main_cst_apply]
  have e : idx_main_v0 (idx_main_v1 (ix2 r j)) = ix1 j := by funext a; match a with | ⟨0, _⟩ => rfl
  have e' : idx_main_v5 (idx_main_v6 (ix2 r j)) = ix1 j := by funext a; match a with | ⟨0, _⟩ => rfl
  rw [e, e']
  rfl

theorem bias10 (r : Fin 4096) (j : Fin 128) : val_main_v10 (F := Ideal) a5 (ix2 r j) = a5 (ix1 j) := by
  rw [val_main_v10_apply, val_main_v9_apply]
  congr 1; funext a; match a with | ⟨0, _⟩ => rfl
theorem bias15 (r : Fin 4096) (j : Fin 128) : val_main_v15 (F := Ideal) a7 (ix2 r j) = a7 (ix1 j) := by
  rw [val_main_v15_apply, val_main_v14_apply]
  congr 1; funext a; match a with | ⟨0, _⟩ => rfl
theorem bias20 (r : Fin 4096) (j : Fin 64) : val_main_v20 (F := Ideal) a9 (ix2 r j) = a9 (ix1 j) := by
  rw [val_main_v20_apply, val_main_v19_apply]
  congr 1; funext a; match a with | ⟨0, _⟩ => rfl

/-- A row vector laid along every row, read at an entry. -/
theorem lay {n : ℕ} (hn : n ≠ 1) (x : (⟨1, ![n]⟩ : Shape).Idx → EReal) (h h' hb) (r : Fin 4096) (j : Fin n) :
    broadcastTo ⟨2, ![4096, n]⟩ (shapeCast ⟨2, ![1, n]⟩ (shapeCast ⟨2, ![1, n]⟩ x h) h') hb (ix2 r j) = x (ix1 j) := by
  rw [broadcastTo_1b_ab_apply, same_apply, shapeCast_a_1a_apply]

/-- The kernel's hidden features are the reference's. -/
theorem encPay2_eq : k0_pay2 (F := Ideal) a0 (shapeCast S1x16 a2 shapeCasts_S16_S1x16) (shapeCast S1x16 a3 shapeCasts_S16_S1x16) a4
    (shapeCast S1x128 a5 shapeCasts_S128_S1x128) a6 (shapeCast S1x128 a7 shapeCasts_S128_S1x128) a8 (shapeCast S1x64 a9 shapeCasts_S64_S1x64)
    = val_main_v21 (F := Ideal) a0 a2 a3 a4 a5 a6 a7 a8 a9 := by
  unfold k0_pay2
  dsimp only
  have s1 : divf (subf a0 (broadcastTo S4096x16 (shapeCast S1x16 (shapeCast S1x16 a2 shapeCasts_S16_S1x16) shapeCasts_S1x16_S1x16) broadcasts_S1x16_S4096x16))
      (broadcastTo S4096x16 (addf (shapeCast S1x16 (shapeCast S1x16 a3 shapeCasts_S16_S1x16) shapeCasts_S1x16_S1x16)
        (broadcast S1x16 (FloatOps.ofBits (F := Ideal) .f32 0x358637BD#32))) broadcasts_S1x16_S4096x16) = val_main_v7 (F := Ideal) a0 a2 a3 := by
    funext i
    obtain ⟨r, j, rfl⟩ := eta2 i
    rw [stage_norm, divf_apply, subf_apply, lay (by decide) a2, broadcastTo_1b_ab_apply, addf_apply, same_apply, shapeCast_a_1a_apply, broadcast_apply]
    rfl
  rw [s1, matmul_zero_eq_dotGeneral, matmul_zero_eq_dotGeneral, matmul_zero_eq_dotGeneral]
  have s2 : maximumf (addf (Host.dotGeneral (φ₁ := .f32) (φ₂ := .f32) dot_S4096x16_S16x128_S4096x128_1_0_0_1_n_n none (val_main_v7 (F := Ideal) a0 a2 a3) a4)
      (broadcastTo S4096x128 (shapeCast S1x128 (shapeCast S1x128 a5 shapeCasts_S128_S1x128) shapeCasts_S1x128_S1x128) broadcasts_S1x128_S4096x128))
      (broadcast S4096x128 (FloatOps.ofBits (F := Ideal) .f32 0x00000000#32)) = val_main_v12 (F := Ideal) a0 a2 a3 a4 a5 := by
    funext i
    obtain ⟨r, j, rfl⟩ := eta2 i
    rw [val_main_v12_apply, val_main_v11_apply, bias10, maximumf_apply, addf_apply, lay (by decide) a5, broadcast_apply, val_main_call0_v0_apply]
    rfl
  rw [s2]
  have s3 : maximumf (addf (Host.dotGeneral (φ₁ := .f32) (φ₂ := .f32) dot_S4096x128_S128x128_S4096x128_1_0_0_1_n_n none (val_main_v12 (F := Ideal) a0 a2 a3 a4 a5) a6)
      (broadcastTo S4096x128 (shapeCast S1x128 (shapeCast S1x128 a7 shapeCasts_S128_S1x128) shapeCasts_S1x128_S1x128) broadcasts_S1x128_S4096x128))
      (broadcast S4096x128 (FloatOps.ofBits (F := Ideal) .f32 0x00000000#32)) = val_main_v17 (F := Ideal) a0 a2 a3 a4 a5 a6 a7 := by
    funext i
    obtain ⟨r, j, rfl⟩ := eta2 i
    rw [val_main_v17_apply, val_main_v16_apply, bias15, maximumf_apply, addf_apply, lay (by decide) a7, broadcast_apply, val_main_call1_v0_apply]
    rfl
  rw [s3]
  funext i
  obtain ⟨r, j, rfl⟩ := eta2 i
  rw [val_main_v21_apply, bias20, addf_apply, lay (by decide) a9]
  rfl

end

end Cert.KernelIdeal.Hand

end
-- ==== Proof.Enc.lean ====
/- What the encoder call and the host leave: the features, the two heads and the quartered bilinear forms. -/
module

public import proofs.«01_k».proof.Proof.Feat
public import proofs.«01_k».proof.Proof.Heads
public import proofs.«01_k».proof.Proof.Gen.ReferenceIdeal.Read
public import Idealize.ShloMosaic.Lib.KernelVsHost
public import Idealize.ShloMosaic.Lib.MatmulPlain
public import Idealize.ShloMosaic.Lib.ValueLayout
public import Idealize.ShloMosaic.Lib.ValueLayoutCasts

@[expose] public section

set_option maxRecDepth 16384

noncomputable section

namespace Cert.KernelIdeal.Hand

open Idealize.ShloMosaic hiding ix1 ix2 ix3 addf_apply subf_apply mulf_apply maximumf_apply
open Idealize.ShloMosaic.TcCoe
open Idealize.SL.Sem
open Idealize.ShloMosaic.Pipeline Idealize.ShloMosaic.ValueIdx
open Cert.KernelIdeal Cert.KernelIdeal.Gen
open Cert.ReferenceIdeal.Read

/-- The features the reference encodes the launch's nodes into. -/
def feat (m : (ℓ : Loc nD τ sig) → Buf (Elt Ideal) ℓ) (c : Dev nD) : Vec Ideal S4096x64 .f32 :=
  val_main_v21 (F := Ideal) (arg m c main_arg0) (arg m c main_arg2) (arg m c main_arg3) (arg m c main_arg4) (arg m c main_arg5) (arg m c main_arg6)
    (arg m c main_arg7) (arg m c main_arg8) (arg m c main_arg9)

/-! The encoder body's three outputs, of features `h`. -/

section

variable (h : FVec Ideal S4096x64 .f32)

theorem heads_apply (w : Vec Ideal S64x128 .f32) (b : Vec Ideal S1x128 .f32) (r : Fin 4096) (j : Fin 128) :
    k0_pay3 h w b (ix2 r j) = (∑ e : Fin 64, h (ix2 r e) * w (ix2 e j)) + b (ix2 (0 : Fin 1) j) := by
  unfold k0_pay3
  rw [addf_apply]
  refine congrArg₂ (· + ·) ?_ ?_
  · refine (Ideal.matmul_plain_apply (M := 4096) (K := 64) (N := 128) none _ _ _ _ _).trans ?_
    refine Eq.trans (congrArg (· + _) Ideal.ofBits_zero_f32) ?_
    rw [zero_add]
    refine Finset.sum_congr rfl fun e _ => ?_
    rw [same_apply]
  · rw [broadcastTo_1b_ab_apply, same_apply]

theorem form_apply (w : Vec Ideal S1x64x64 .f32) (r : Fin 4096) (e : Fin 64) :
    matmul (φ₁ := .f32) (φ₂ := .f32) dot_S4096x64_S64x64_S4096x64_1_0_0_1_n_n none h (shapeCast S64x64 w shapeCasts_S1x64x64_S64x64) (constant (F := Ideal) S4096x64 .f32 0x00000000#32) (ix2 r e)
      = ∑ q : Fin 64, h (ix2 r q) * w (ix3 (0 : Fin 1) q e) := by
  refine (Ideal.matmul_plain_apply (M := 4096) (K := 64) (N := 64) none _ _ _ _ _).trans ?_
  refine Eq.trans (congrArg (· + _) Ideal.ofBits_zero_f32) ?_
  rw [zero_add]
  refine Finset.sum_congr rfl fun q _ => ?_
  rw [shapeCast_1ab_ab_apply]

theorem pay4_apply (w : Vec Ideal S1x64x64 .f32) (r : Fin 4096) (e : Fin 64) : k0_pay4 h w (ix3 (0 : Fin 1) r e)
    = Ideal.ofBits .f32 0x3E800000#32 * ∑ q : Fin 64, h (ix2 r q) * w (ix3 (0 : Fin 1) q e) := by
  unfold k0_pay4
  refine (shapeCast_ab_1ab_apply _ _ _ _ _).trans ?_
  exact congrArg (Ideal.ofBits .f32 0x3E800000#32 * ·) (form_apply h w r e)
theorem pay5_apply (w : Vec Ideal S1x64x64 .f32) (r : Fin 4096) (e : Fin 64) : k0_pay5 h w (ix3 (0 : Fin 1) r e)
    = Ideal.ofBits .f32 0x3E800000#32 * ∑ q : Fin 64, h (ix2 r q) * w (ix3 (0 : Fin 1) q e) := by
  unfold k0_pay5
  refine (shapeCast_ab_1ab_apply _ _ _ _ _).trans ?_
  exact congrArg (Ideal.ofBits .f32 0x3E800000#32 * ·) (form_apply h w r e)
theorem pay1_apply (w : Vec Ideal S1x64x64 .f32) (r : Fin 4096) (e : Fin 64) : k0_pay1 (k0_pay6 h w) k0_pay7 (ix3 (0 : Fin 1) r e)
    = Ideal.ofBits .f32 0x3E800000#32 * ∑ q : Fin 64, h (ix2 r q) * w (ix3 (0 : Fin 1) q e) := by
  unfold k0_pay1 k0_pay6 k0_pay7
  refine (shapeCast_ab_1ab_apply _ _ _ _ _).trans ?_
  exact congrArg (Ideal.ofBits .f32 0x3E800000#32 * ·) (form_apply h w r e)

/-- A slab of the bilinear forms, read. -/
theorem form_slab (x : Vec Ideal S3x64x64 .f32) (k : Fin 3) (o : Fin 3 → ℕ) (hi : ∀ a, o a + S1x64x64.size a ≤ S3x64x64.size a) (ho : o = ![k.val, 0, 0]) (q e : Fin 64) :
    View.ld x (Rect.unit (s := S3x64x64) o S1x64x64.size hi) (ix3 (0 : Fin 1) q e) = x (ix3 k q e) := by
  subst ho
  exact View.ld_unit_apply_of _ _ _ _ _ _ fun a => by fin_cases a <;> simp

abbrev G (o : Fin 3 → ℕ) (hi : ∀ a, o a + S1x4096x64.size a ≤ S3x4096x64.size a) : Rect S3x4096x64 := Rect.unit (s := S3x4096x64) o S1x4096x64.size hi

theorem at_form (k : Fin 3) (o : Fin 3 → ℕ) (hi : ∀ a, o a + S1x4096x64.size a ≤ S3x4096x64.size a) (ho : o = ![k.val, 0, 0]) (r : Fin 4096) (e : Fin 64) :
    (G o hi).emb (ix3 (0 : Fin 1) r e) = ix3 k r e := by
  subst ho
  funext a
  refine Fin.ext ?_
  match a with
  | ⟨0, _⟩ => show k.val + 1 * 0 = k.val; omega
  | ⟨1, _⟩ => show 0 + 1 * r.val = r.val; omega
  | ⟨2, _⟩ => show 0 + 1 * e.val = e.val; omega

theorem off_form (k : Fin 3) (l : ℕ) (hl : l ≠ k.val) (hi) (r : Fin 4096) (e : Fin 64) : ix3 k r e ∉ (G ![l, 0, 0] hi).set := by
  rw [Rect.mem_set_unit]
  intro h
  have h0 := h 0
  have h1 : l ≤ k.val ∧ k.val < l + 1 := h0
  omega

section

variable (o0 o1 o2 : Fin 3 → ℕ) (h0 : ∀ a, o0 a + S1x4096x64.size a ≤ S3x4096x64.size a) (h1 : ∀ a, o1 a + S1x4096x64.size a ≤ S3x4096x64.size a)
  (h2 : ∀ a, o2 a + S1x4096x64.size a ≤ S3x4096x64.size a) (w0 : o0 = ![0, 0, 0]) (w1 : o1 = ![1, 0, 0]) (w2 : o2 = ![2, 0, 0])
  (A : (G o0 h0).shape.Idx → Elt Ideal .f32) (B : (G o1 h1).shape.Idx → Elt Ideal .f32) (C : (G o2 h2).shape.Idx → Elt Ideal .f32) (r : Fin 4096) (e : Fin 64)

/-- The three slabs, stored in turn. -/
abbrev slabs : List (View.Piece (Elt Ideal) S3x4096x64 .f32) := [⟨G o2 h2, C⟩, ⟨G o1 h1, B⟩, ⟨G o0 h0, A⟩]

include w0 w1 w2 in
theorem slabs_zero : View.canon (slabs o0 o1 o2 h0 h1 h2 A B C) (ix3 (0 : Fin 3) r e) = A (ix3 (0 : Fin 1) r e) := by
  have n2 : ix3 (0 : Fin 3) r e ∉ (G o2 h2).set := by subst w2; exact off_form 0 2 (by decide) _ r e
  have n1 : ix3 (0 : Fin 3) r e ∉ (G o1 h1).set := by subst w1; exact off_form 0 1 (by decide) _ r e
  rw [View.canon_cons_of_not_mem (⟨G o2 h2, C⟩ : View.Piece (Elt Ideal) S3x4096x64 .f32) _ n2, View.canon_cons_of_not_mem (⟨G o1 h1, B⟩ : View.Piece (Elt Ideal) S3x4096x64 .f32) _ n1, ← at_form 0 o0 h0 w0 r e]
  exact View.canon_cons_emb (G o0 h0) A _ _
include w1 w2 in
theorem slabs_one : View.canon (slabs o0 o1 o2 h0 h1 h2 A B C) (ix3 (1 : Fin 3) r e) = B (ix3 (0 : Fin 1) r e) := by
  have n2 : ix3 (1 : Fin 3) r e ∉ (G o2 h2).set := by subst w2; exact off_form 1 2 (by decide) _ r e
  rw [View.canon_cons_of_not_mem (⟨G o2 h2, C⟩ : View.Piece (Elt Ideal) S3x4096x64 .f32) _ n2, ← at_form 1 o1 h1 w1 r e]
  exact View.canon_cons_emb (G o1 h1) B _ _
include w2 in
theorem slabs_two : View.canon (slabs o0 o1 o2 h0 h1 h2 A B C) (ix3 (2 : Fin 3) r e) = C (ix3 (0 : Fin 1) r e) := by
  rw [← at_form 2 o2 h2 w2 r e]
  exact View.canon_cons_emb (G o2 h2) C _ _

end

end

section

variable (m : (ℓ : Loc nD τ sig) → Buf (Elt Ideal) ℓ) (c : Dev nD)

theorem hid_eq : encHid (blk0 (V1 m) c 0 only) (blk0 (V1 m) c 1 only) (blk0 (V1 m) c 2 only) (blk0 (V1 m) c 3 only) (blk0 (V1 m) c 4 only) (blk0 (V1 m) c 5 only)
    (blk0 (V1 m) c 6 only) (blk0 (V1 m) c 7 only) (blk0 (V1 m) c 8 only) (blk0 (V1 m) c 9 only) (blk0 (V1 m) c 10 only) (blk0 (V1 m) c 11 only) = feat m c := by
  unfold encHid feat
  rw [View.ld_unit_zero (by funext a; fin_cases a <;> rfl) _ _, View.ld_unit_zero (by funext a; fin_cases a <;> rfl) _ _,
    View.ld_unit_zero (by funext a; fin_cases a <;> rfl) _ _, View.ld_unit_zero (by funext a; fin_cases a <;> rfl) _ _,
    View.ld_unit_zero (by funext a; fin_cases a <;> rfl) _ _, View.ld_unit_zero (by funext a; fin_cases a <;> rfl) _ _,
    View.ld_unit_zero (by funext a; fin_cases a <;> rfl) _ _, View.ld_unit_zero (by funext a; fin_cases a <;> rfl) _ _,
    View.ld_unit_zero (by funext a; fin_cases a <;> rfl) _ _]
  rw [whole0_0, whole0_1, whole0_2, whole0_3, whole0_4, whole0_5, whole0_6, whole0_7, whole0_8]
  rw [← encPay2_eq]
  have h0 : V1 m c main_arg0 = arg m c main_arg0 := W1_args m c main_arg0 (by decide)
  have h4 : V1 m c main_arg4 = arg m c main_arg4 := W1_args m c main_arg4 (by decide)
  have h6 : V1 m c main_arg6 = arg m c main_arg6 := W1_args m c main_arg6 (by decide)
  have h8 : V1 m c main_arg8 = arg m c main_arg8 := W1_args m c main_arg8 (by decide)
  have t1 : V1 m c main_call0_v14 = _ := W1_means m c
  have t2 : V1 m c main_call0_v15 = _ := W1_stds m c
  have t3 : V1 m c main_call0_v16 = _ := W1_b1 m c
  have t4 : V1 m c main_call0_v17 = _ := W1_b2 m c
  have t5 : V1 m c main_call0_v18 = _ := W1_b3 m c
  rw [h0, h4, h6, h8, t1, t2, t3, t4, t5]

theorem hidAt_eq : hidAt (V1 m) c = feat m c := by
  unfold hidAt encH
  rw [hid_eq]
  exact View.canon_cons_unit_zero (by funext a; fin_cases a <;> rfl) _ _ _

theorem headsAt_apply (r : Fin 4096) (j : Fin 128) : headsAt (V1 m) c (ix2 r j)
    = (∑ e : Fin 64, feat m c (ix2 r e) * headW (arg m c main_arg10) (arg m c main_arg13) (ix2 e j)) + headB (arg m c main_arg11) (arg m c main_arg14) (ix2 (0 : Fin 1) j) := by
  unfold headsAt encHeads
  rw [hid_eq]
  refine (congrFun (View.canon_cons_unit_zero (by funext a; fin_cases a <;> rfl) _ _ _) _).trans ?_
  rw [View.ld_unit_zero (by funext a; fin_cases a <;> rfl) _ _, View.ld_unit_zero (by funext a; fin_cases a <;> rfl) _ _, whole0_9, whole0_10]
  have t1 : V1 m c main_call0_v4 = _ := W1_headW m c
  have t2 : V1 m c main_call0_v13 = _ := W1_headB m c
  rw [t1, t2]
  exact heads_apply _ _ _ _ _

/-- The quartered bilinear form of a node's features. -/
theorem formsAt_apply (k : Fin 3) (r : Fin 4096) (e : Fin 64) : formsAt (V1 m) c (ix3 k r e)
    = Ideal.ofBits .f32 0x3E800000#32 * ∑ q : Fin 64, feat m c (ix2 r q) * (arg m c main_arg12 : Vec Ideal S3x64x64 .f32) (ix3 k q e) := by
  unfold formsAt encHW
  rw [hid_eq, whole0_11]
  have t1 : V1 m c main_arg12 = arg m c main_arg12 := W1_args m c main_arg12 (by decide)
  rw [t1]
  match k with
  | ⟨0, _⟩ =>
    refine (slabs_zero _ _ _ _ _ _ rfl rfl rfl _ _ _ r e).trans ((pay4_apply _ _ _ _).trans ?_)
    exact congrArg (_ * ·) (Finset.sum_congr rfl fun q _ => congrArg (_ * ·) (form_slab _ 0 _ _ rfl q e))
  | ⟨1, _⟩ =>
    refine (slabs_one _ _ _ _ _ _ rfl rfl _ _ _ r e).trans ((pay5_apply _ _ _ _).trans ?_)
    exact congrArg (_ * ·) (Finset.sum_congr rfl fun q _ => congrArg (_ * ·) (form_slab _ 1 _ _ rfl q e))
  | ⟨2, _⟩ =>
    refine (slabs_two _ _ _ _ _ _ rfl _ _ _ r e).trans ((pay1_apply _ _ _ _).trans ?_)
    exact congrArg (_ * ·) (Finset.sum_congr rfl fun q _ => congrArg (_ * ·) (form_slab _ 2 _ _ rfl q e))

/-! The first, second and fourth results. -/

theorem end_feat : W4 m c main_v0_0 = feat m c := by
  refine (W4_of m c main_v0_0 (by decide)).trans ?_
  refine (W3_of m c main_v0_0 (by decide)).trans ?_
  refine (W2_arr m c 12).trans ?_
  rw [region0_hidAt, hidAt_eq]

theorem mid_heads : (W2 m c main_call0_v19_1 : Vec Ideal S4096x128 .f32) = headsAt (V1 m) c := (W2_arr m c 13).trans (region0_headsAt (V1 m) c)
theorem mid_forms : (W2 m c main_call0_v19_2 : Vec Ideal S3x4096x64 .f32) = formsAt (V1 m) c := (W2_arr m c 14).trans (region0_formsAt (V1 m) c)
theorem mid_feat : (W2 m c main_v0_0 : Vec Ideal S4096x64 .f32) = feat m c := (W2_arr m c 12).trans (by rw [region0_hidAt, hidAt_eq])

theorem end_first : W4 m c main_v0_1 = val_main_v25 (F := Ideal) (arg m c main_arg0) (arg m c main_arg2) (arg m c main_arg3) (arg m c main_arg4) (arg m c main_arg5) (arg m c main_arg6)
    (arg m c main_arg7) (arg m c main_arg8) (arg m c main_arg9) (arg m c main_arg10) (arg m c main_arg11) := by
  refine (W4_of m c main_v0_1 (by decide)).trans ((W3_first m c).trans ?_)
  funext i
  obtain ⟨r, q, rfl⟩ := eta2 i
  refine (slice2_axis1_apply _ _ _ r q (⟨q.val, by have := q.isLt; omega⟩ : Fin 128) (by simp)).trans ?_
  rw [mid_heads, headsAt_apply, val_main_v25_apply, val_main_v22_apply, val_main_v24_apply, val_main_v23_apply, headB_first]
  refine congrArg₂ (· + ·) (Finset.sum_congr rfl fun e _ => ?_) ?_
  · rw [headW_first]
    refine congrArg₂ (· * ·) (congrArg _ ?_) (congrArg _ ?_) <;> (funext a; match a with | ⟨0, _⟩ => rfl | ⟨1, _⟩ => rfl)
  · refine congrArg _ ?_
    funext a; match a with | ⟨0, _⟩ => rfl

theorem end_second : W4 m c main_v0_3 = val_main_v29 (F := Ideal) (arg m c main_arg0) (arg m c main_arg2) (arg m c main_arg3) (arg m c main_arg4) (arg m c main_arg5) (arg m c main_arg6)
    (arg m c main_arg7) (arg m c main_arg8) (arg m c main_arg9) (arg m c main_arg13) (arg m c main_arg14) := by
  refine (W4_of m c main_v0_3 (by decide)).trans ((W3_second m c).trans ?_)
  funext i
  obtain ⟨r, q, rfl⟩ := eta2 i
  refine (slice2_axis1_apply _ _ _ r q (⟨64 + q.val, by have := q.isLt; omega⟩ : Fin 128) rfl).trans ?_
  rw [mid_heads, headsAt_apply, val_main_v29_apply, val_main_v26_apply, val_main_v28_apply, val_main_v27_apply, headB_second]
  refine congrArg₂ (· + ·) (Finset.sum_congr rfl fun e _ => ?_) ?_
  · rw [headW_second]
    refine congrArg₂ (· * ·) (congrArg _ ?_) (congrArg _ ?_) <;> (funext a; match a with | ⟨0, _⟩ => rfl | ⟨1, _⟩ => rfl)
  · refine congrArg _ ?_
    funext a; match a with | ⟨0, _⟩ => rfl

end

end Cert.KernelIdeal.Hand

end
-- ==== Proof.Scalars.lean ====
/- The prior's entries as extended reals: what the kernel computes for one pair of nodes, and what the reference does. -/
module

public import Idealize.ShloMosaic.PureOps.Ideal.Laws
public import Idealize.ShloMosaic.Lib.IdealHost
public import Mathlib.Analysis.SpecialFunctions.Log.Basic
public import Mathlib.Analysis.SpecialFunctions.Trigonometric.DerivHyp

@[expose] public section

noncomputable section

namespace Cert.Scalars

open Idealize.ShloMosaic

/-- A choice by a decided proposition. -/
theorem pick {α : Type} (p : Prop) [Decidable p] (a b : α) : Scalar.select (BitVec.ofBool (decide p)) a b = if p then a else b := by
  by_cases h : p
  · simp only [h, decide_true, if_true]; rfl
  · simp only [h, decide_false, if_false]; rfl

/-! Literals. -/

theorem lit_quarter : Ideal.ofBits .f32 0x3E800000#32 = ((1 / 4 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_hundred : Ideal.ofBits .f32 0x42C80000#32 = ((100 : ℝ) : EReal) := by
  simp [Ideal.ofBits, Ideal.ieee, -EReal.coe_mul]; norm_num
theorem lit_thousand : Ideal.ofBits .f32 0x447A0000#32 = ((1000 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_minus_one : Ideal.ofBits .f32 0xBF800000#32 = ((-1 : ℝ) : EReal) := by
  simp [Ideal.ofBits, Ideal.ieee, -EReal.coe_mul]; norm_num
theorem lit_bottom : Ideal.ofBits .f32 0xFF800000#32 = ⊥ := by
  simp [Ideal.ofBits, Ideal.ieee]
theorem lit_count : Ideal.ofBits .f32 0x41A40000#32 = ((20.5 : ℝ) : EReal) := by
  simp [Ideal.ofBits, Ideal.ieee, -EReal.coe_mul]; norm_num

/-- The small number under the square root. -/
def tiny : ℝ := 10633824 * (2 : ℝ) ^ (-123 : ℤ)

theorem tiny_pos : 0 < tiny := by unfold tiny; positivity

theorem lit_tiny : Ideal.ofBits .f32 0x0DA24260#32 = ((tiny : ℝ) : EReal) := by
  unfold tiny
  simp [Ideal.ofBits, Ideal.ieee, -EReal.coe_mul]

/-! Scaling a sum by a quarter. -/

theorem quarter_sum {ι : Type} (s : Finset ι) (f : ι → EReal) :
    ((1 / 4 : ℝ) : EReal) * ∑ i ∈ s, f i = ∑ i ∈ s, ((1 / 4 : ℝ) : EReal) * f i := by
  classical
  induction s using Finset.induction_on with
  | empty => simp
  | insert a s ha ih =>
    rw [Finset.sum_insert ha, Finset.sum_insert ha, ← ih]
    exact EReal.left_distrib_of_nonneg_of_ne_top (by positivity) (EReal.coe_ne_top _) _ _

/-- The similarity with its left factor quartered is the similarity divided by four. -/
theorem quarter_sim {ι : Type} (s : Finset ι) (a b : ι → EReal) :
    ∑ i ∈ s, (Ideal.ofBits .f32 0x3E800000#32 * a i) * b i = Ideal.div (∑ i ∈ s, a i * b i) (Ideal.ofBits .f32 0x40800000#32) := by
  rw [lit_quarter, lit_four, Ideal.div_coe (by norm_num), mul_comm, quarter_sum]
  exact Finset.sum_congr rfl fun i _ => mul_assoc _ _ _

/-! The learned factor. -/

theorem tanh_real (x : EReal) : ∃ t : ℝ, Ideal.tanh x = (t : EReal) := by
  induction x with
  | bot => exact ⟨-1, by rfl⟩
  | top => exact ⟨1, by rfl⟩
  | coe r => exact ⟨Real.tanh r, rfl⟩

theorem kernel_soft (t : ℝ) : Ideal.log1p (Ideal.exp (t : EReal)) = ((Real.log (1 + Real.exp t) : ℝ) : EReal) := by
  show Ideal.log (1 + ((Real.exp t : ℝ) : EReal)) = _
  rw [show (1 : EReal) + ((Real.exp t : ℝ) : EReal) = ((1 + Real.exp t : ℝ) : EReal) by push_cast; rfl]
  show (if 1 + Real.exp t ≤ 0 then (⊥ : EReal) else ((Real.log (1 + Real.exp t) : ℝ) : EReal)) = _
  rw [if_neg (by have := Real.exp_pos t; linarith)]

theorem soft_real (t : ℝ) : max t 0 + Real.log (1 + Real.exp (-max t (-t))) = Real.log (1 + Real.exp t) := by
  have h : ∀ u : ℝ, 0 < 1 + Real.exp u := fun u => by have := Real.exp_pos u; linarith
  rcases le_total 0 t with ht | ht
  · rw [max_eq_left ht, max_eq_left (by linarith)]
    have e : t = Real.log (Real.exp t) := (Real.log_exp t).symm
    conv_lhs => rw [show t + Real.log (1 + Real.exp (-t)) = Real.log (Real.exp t) + Real.log (1 + Real.exp (-t)) by rw [Real.log_exp]]
    rw [← Real.log_mul (Real.exp_pos t).ne' (h _).ne', mul_add, ← Real.exp_add]
    simp [add_comm]
  · rw [max_eq_right ht, max_eq_right (by linarith)]
    simp

/-- The softplus as the reference spells it, of a real. -/
theorem reference_soft (t : ℝ) :
    max (t : EReal) (Ideal.ofBits .f32 0x00000000#32) + Ideal.log1p (Ideal.exp (-(max ((t : EReal) - Ideal.ofBits .f32 0x00000000#32) (-((t : EReal) - Ideal.ofBits .f32 0x00000000#32)))))
      = ((Real.log (1 + Real.exp t) : ℝ) : EReal) := by
  rw [Ideal.ofBits_zero_f32, sub_zero]
  rw [show max (t : EReal) (-(t : EReal)) = ((max t (-t) : ℝ) : EReal) by
    rw [← EReal.coe_neg]; exact (EReal.coe_strictMono.monotone.map_max (a := t) (b := -t)).symm]
  rw [← EReal.coe_neg, kernel_soft]
  rw [show max (t : EReal) 0 = ((max t 0 : ℝ) : EReal) by
    rw [← EReal.coe_zero]; exact (EReal.coe_strictMono.monotone.map_max (a := t) (b := 0)).symm]
  rw [← EReal.coe_add, soft_real]

/-! The decay, with its mask. -/

/-- The squared distance's guarded root, as the kernel has it. -/
def guarded (d : ℝ) : ℝ := d * (Real.sqrt (d + tiny))⁻¹

/-- In range or not. -/
def inRange (d : ℝ) : ℝ := if d ≤ 1 / 10000 then 1 else 0

/-- The kernel's base factor. -/
def base (d : ℝ) : ℝ := Real.exp (guarded d * (-500 / 3)) * inRange d

theorem kernel_base (d : ℝ) (hd : 0 ≤ d) :
    Ideal.exp (((d : EReal) * Ideal.rsqrt ((d : EReal) + Ideal.ofBits .f32 0x0DA24260#32)) * ((-500 / 3 : ℝ) : EReal)) * ((inRange d : ℝ) : EReal)
      = ((base d : ℝ) : EReal) := by
  have hp : 0 < d + tiny := by have := tiny_pos; linarith
  rw [lit_tiny, ← EReal.coe_add]
  rw [show Ideal.rsqrt ((d + tiny : ℝ) : EReal) = (((Real.sqrt (d + tiny))⁻¹ : ℝ) : EReal) by
    show (if d + tiny < 0 then (⊥ : EReal) else if d + tiny = 0 then ⊤ else (((Real.sqrt (d + tiny))⁻¹ : ℝ) : EReal)) = _
    rw [if_neg (not_lt.mpr hp.le), if_neg hp.ne']]
  rw [← EReal.coe_mul, ← EReal.coe_mul]
  show ((Real.exp _ : ℝ) : EReal) * _ = _
  rw [← EReal.coe_mul]
  rfl

/-- The reference's decay over a length of `l` thousandths, masked. -/
theorem reference_decay (d l : ℝ) (hd : 0 ≤ d) (hl : 0 < l) (w : BitVec 32) (hw : Ideal.ofBits .f32 w = ((l : ℝ) : EReal)) :
    Ideal.exp (Ideal.div (-(Ideal.div (d : EReal) (Ideal.sqrt ((d : EReal) + Ideal.ofBits .f32 0x0DA24260#32))) * Ideal.ofBits .f32 0x447A0000#32) (Ideal.ofBits .f32 w)) * ((inRange d : ℝ) : EReal)
      = ((Real.exp (guarded d * (-1000 / l)) * inRange d : ℝ) : EReal) := by
  have hp : 0 < d + tiny := by have := tiny_pos; linarith
  have hs : Real.sqrt (d + tiny) ≠ 0 := (Real.sqrt_pos.mpr hp).ne'
  rw [lit_tiny, ← EReal.coe_add]
  rw [show Ideal.sqrt ((d + tiny : ℝ) : EReal) = ((Real.sqrt (d + tiny) : ℝ) : EReal) by
    show (if d + tiny < 0 then (⊥ : EReal) else ((Real.sqrt (d + tiny) : ℝ) : EReal)) = _
    rw [if_neg (not_lt.mpr hp.le)]]
  rw [Ideal.div_coe hs, hw, lit_thousand, Ideal.div_coe hl.ne', ← EReal.coe_mul, ← EReal.coe_neg, ← EReal.coe_mul, ← EReal.coe_mul]
  show ((Real.exp _ : ℝ) : EReal) * _ = _
  rw [← EReal.coe_mul]
  congr 3
  unfold guarded
  field_simp

theorem inRange_sq (d : ℝ) : inRange d * inRange d = inRange d := by unfold inRange; split <;> norm_num

theorem base_two (d : ℝ) : base d * base d = Real.exp (guarded d * (-1000 / 3)) * inRange d := by
  unfold base
  rw [show Real.exp (guarded d * (-500 / 3)) * inRange d * (Real.exp (guarded d * (-500 / 3)) * inRange d)
    = (Real.exp (guarded d * (-500 / 3)) * Real.exp (guarded d * (-500 / 3))) * (inRange d * inRange d) by ring, ← Real.exp_add, inRange_sq]
  congr 2; ring

theorem base_three (d : ℝ) : base d * base d * base d = Real.exp (guarded d * (-1000 / 2)) * inRange d := by
  rw [base_two]
  unfold base
  rw [show Real.exp (guarded d * (-1000 / 3)) * inRange d * (Real.exp (guarded d * (-500 / 3)) * inRange d)
    = (Real.exp (guarded d * (-1000 / 3)) * Real.exp (guarded d * (-500 / 3))) * (inRange d * inRange d) by ring, ← Real.exp_add, inRange_sq]
  congr 2; ring

theorem base_six (d : ℝ) : base d * base d * base d * (base d * base d * base d) = Real.exp (guarded d * (-1000 / 1)) * inRange d := by
  rw [base_three]
  rw [show Real.exp (guarded d * (-1000 / 2)) * inRange d * (Real.exp (guarded d * (-1000 / 2)) * inRange d)
    = (Real.exp (guarded d * (-1000 / 2)) * Real.exp (guarded d * (-1000 / 2))) * (inRange d * inRange d) by ring, ← Real.exp_add, inRange_sq]
  congr 2; ring

/-- The mask by the squared distance is the mask by the distance. -/
theorem mask_iff (d : ℝ) (hd : 0 ≤ d) : Real.sqrt d * 100 ≤ 1 ↔ d ≤ 1 / 10000 := by
  constructor
  · intro h
    have h1 := Real.sq_sqrt hd
    have h2 := Real.sqrt_nonneg d
    nlinarith
  · intro h
    have : Real.sqrt d ≤ 1 / 100 := Real.sqrt_le_iff.mpr ⟨by norm_num, by norm_num; linarith⟩
    linarith

theorem reference_mask (d : ℝ) (hd : 0 ≤ d) :
    (((Ideal.cmp .ole (Ideal.sqrt (d : EReal) * Ideal.ofBits .f32 0x42C80000#32) (Ideal.ofBits .f32 0x3F800000#32)).toNat : ℝ) : EReal) = ((inRange d : ℝ) : EReal) := by
  rw [show Ideal.sqrt (d : EReal) = ((Real.sqrt d : ℝ) : EReal) by
    show (if d < 0 then (⊥ : EReal) else ((Real.sqrt d : ℝ) : EReal)) = _
    rw [if_neg (not_lt.mpr hd)]]
  rw [lit_hundred, lit_one, ← EReal.coe_mul]
  unfold Ideal.cmp inRange
  simp only [EReal.coe_le_coe_iff, mask_iff d hd]
  by_cases h : d ≤ 1 / 10000
  · simp only [h, decide_true, if_true]
    rw [show (BitVec.ofBool true).toNat = 1 from by decide]; norm_num
  · simp only [h, decide_false, if_false]
    rw [show (BitVec.ofBool false).toNat = 0 from by decide]; norm_num

theorem kernel_mask (d : ℝ) :
    ((((Ideal.cmp .ole (d : EReal) ((1 / 10000 : ℝ) : EReal)).setWidth 32).toInt : ℝ) : EReal) = ((inRange d : ℝ) : EReal) := by
  unfold Ideal.cmp inRange
  simp only [EReal.coe_le_coe_iff]
  by_cases h : d ≤ 1 / 10000
  · simp only [h, decide_true, if_true]
    rw [show ((BitVec.ofBool true).setWidth 32).toInt = 1 from by decide]; norm_num
  · simp only [h, decide_false, if_false]
    rw [show ((BitVec.ofBool false).setWidth 32).toInt = 0 from by decide]; norm_num

theorem base_nonneg (d : ℝ) : 0 ≤ base d := by
  unfold base inRange
  split
  · simpa using (Real.exp_pos _).le
  · simp

theorem soft_pos (t : ℝ) : 0 < Real.log (1 + Real.exp t) := Real.log_pos (by have := Real.exp_pos t; linarith)

end Cert.Scalars

end
-- ==== Proof.Prior.lean ====
/- One entry of the reference's prior, as a real number. -/
module

public import proofs.«01_k».proof.Proof.Enc
public import proofs.«01_k».proof.Proof.Scalars
public import proofs.«01_k».proof.Proof.Gen.ReferenceIdeal.Read
public import Idealize.ShloMosaic.Lib.KernelVsHost
public import Idealize.ShloMosaic.Lib.MatmulPlain
public import Idealize.ShloMosaic.Lib.ValueLayout
public import Idealize.ShloMosaic.Lib.ValueLayoutCasts

@[expose] public section

set_option maxRecDepth 16384

noncomputable section

namespace Cert.KernelIdeal.Hand

open Idealize.ShloMosaic hiding ix1 ix2 ix3 addf_apply subf_apply mulf_apply maximumf_apply
open Idealize.ShloMosaic.TcCoe
open Idealize.SL.Sem
open Idealize.ShloMosaic.Pipeline Idealize.ShloMosaic.ValueIdx
open Cert.KernelIdeal Cert.KernelIdeal.Gen
open Cert.ReferenceIdeal.Read

open Cert.Scalars

/-! One entry of a prior, as the reference computes it. -/

/-- The reference's softplus. -/
def plus (u : EReal) : EReal :=
  Scalar.select (Ideal.cmp .une (u - Ideal.ofBits .f32 0x00000000#32) (u - Ideal.ofBits .f32 0x00000000#32)) (u + Ideal.ofBits .f32 0x00000000#32)
    (max u (Ideal.ofBits .f32 0x00000000#32)
      + Ideal.log1p (Ideal.exp (-(max (u - Ideal.ofBits .f32 0x00000000#32) (-(u - Ideal.ofBits .f32 0x00000000#32))))))

/-- The reference's entry: of the length scale's word, the squared distance, the similarity's tanh and the diagonal's bit. -/
def refEntry (w : BitVec 32) (D T : EReal) (b : BitVec 1) : EReal :=
  (Ideal.exp (Ideal.div (-(Ideal.div D (Ideal.sqrt (D + Ideal.ofBits .f32 0x0DA24260#32))) * Ideal.ofBits .f32 0x447A0000#32) (Ideal.ofBits .f32 w))
    * (((Ideal.cmp .ole (Ideal.sqrt D * Ideal.ofBits .f32 0x42C80000#32) (Ideal.ofBits .f32 0x3F800000#32)).toNat : ℝ) : EReal))
    * plus (T - Scalar.select b T (Ideal.ofBits .f32 0x00000000#32))

/-- The entry as a real number. -/
def entry (l d t : ℝ) : ℝ := Real.exp (guarded d * (-1000 / l)) * inRange d * Real.log (1 + Real.exp t)

theorem plus_real (t : ℝ) : plus (t : EReal) = ((Real.log (1 + Real.exp t) : ℝ) : EReal) := by
  unfold plus
  rw [reference_soft]
  unfold Ideal.cmp
  rw [Scalars.pick, if_neg (fun h => h rfl)]

theorem refEntry_real (l d t : ℝ) (hd : 0 ≤ d) (hl : 0 < l) (w : BitVec 32) (hw : Ideal.ofBits .f32 w = ((l : ℝ) : EReal)) (p : Prop) [Decidable p] :
    refEntry w (d : EReal) (t : EReal) (BitVec.ofBool (decide p)) = ((entry l d (if p then 0 else t) : ℝ) : EReal) := by
  unfold refEntry
  rw [reference_mask d hd, reference_decay d l hd hl w hw, Scalars.pick]
  have e : (t : EReal) - (if p then (t : EReal) else Ideal.ofBits .f32 0x00000000#32) = (((if p then 0 else t : ℝ)) : EReal) := by
    by_cases h : p
    · rw [if_pos h, if_pos h, ← EReal.coe_sub, sub_self]
    · rw [if_neg h, if_neg h, Ideal.ofBits_zero_f32, sub_zero]
  rw [e, plus_real, ← EReal.coe_mul]
  rfl

theorem entry_nonneg (l d t : ℝ) : 0 ≤ entry l d t := by
  unfold entry
  refine mul_nonneg (mul_nonneg (Real.exp_pos _).le ?_) (Real.log_nonneg (by have := Real.exp_pos t; linarith))
  unfold inRange; split <;> norm_num

theorem entry_pos (l d t : ℝ) (h : 0 < entry l d t) : inRange d = 1 := by
  by_contra hn
  have h0 : inRange d = 0 := by
    unfold inRange at hn ⊢
    by_cases hd : d ≤ 1 / 10000
    · rw [if_pos hd] at hn; exact absurd rfl hn
    · rw [if_neg hd]
  unfold entry at h
  rw [h0] at h
  simp at h

theorem entry_diag (l : ℝ) : entry l 0 0 = Real.log 2 := by
  unfold entry guarded inRange
  rw [zero_mul, zero_mul, Real.exp_zero, if_pos (by norm_num)]
  norm_num

section

variable (m : (ℓ : Loc nD τ sig) → Buf (Elt Ideal) ℓ) (c : Dev nD)

/-- The nodes' places. -/
abbrev place : Vec Ideal S4096x2 .f32 := arg m c main_arg1
/-- The squared distance of two nodes. -/
def apart (r j : Fin 4096) : EReal :=
  (place m c (ix2 r (0 : Fin 2)) - place m c (ix2 j (0 : Fin 2))) * (place m c (ix2 r (0 : Fin 2)) - place m c (ix2 j (0 : Fin 2)))
    + (place m c (ix2 r (1 : Fin 2)) - place m c (ix2 j (1 : Fin 2))) * (place m c (ix2 r (1 : Fin 2)) - place m c (ix2 j (1 : Fin 2)))
/-- A node's features through a bilinear form. -/
def through (k : Fin 3) (r : Fin 4096) (e : Fin 64) : EReal := ∑ q : Fin 64, feat m c (ix2 r q) * (arg m c main_arg12 : Vec Ideal S3x64x64 .f32) (ix3 k q e)
/-- The similarity of two nodes, squashed. -/
def alike (k : Fin 3) (r j : Fin 4096) : EReal :=
  Ideal.tanh (Ideal.div (∑ e : Fin 64, through m c k r e * feat m c (ix2 j e)) (Ideal.ofBits .f32 0x40800000#32))

/-- The reference's prior, by the kernel's number. -/
def prior (k : Fin 3) : Vec Ideal Cert.ReferenceIdeal.S4096x4096 .f32 := match k with
  | ⟨0, _⟩ => val_main_v81 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12)
  | ⟨1, _⟩ => val_main_v110 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12)
  | ⟨2, _⟩ => val_main_v139 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12)
/-- The length scales' words and values. -/
def lenW (k : Fin 3) : BitVec 32 := match k with | ⟨0, _⟩ => 0x40400000#32 | ⟨1, _⟩ => 0x3F800000#32 | ⟨2, _⟩ => 0x40000000#32
def len (k : Fin 3) : ℝ := match k with | ⟨0, _⟩ => 3 | ⟨1, _⟩ => 1 | ⟨2, _⟩ => 2
theorem lenW_eq (k : Fin 3) : Ideal.ofBits .f32 (lenW k) = ((len k : ℝ) : EReal) := match k with
  | ⟨0, _⟩ => lit_three | ⟨1, _⟩ => lit_one | ⟨2, _⟩ => lit_two
theorem len_pos (k : Fin 3) : 0 < len k := match k with
  | ⟨0, _⟩ => by show (0 : ℝ) < 3; norm_num
  | ⟨1, _⟩ => by show (0 : ℝ) < 1; norm_num
  | ⟨2, _⟩ => by show (0 : ℝ) < 2; norm_num

theorem apart_ref (r j : Fin 4096) : val_main_v46 (F := Ideal) (arg m c main_arg1) (ix2 r j) = apart m c r j := by
  rw [val_main_v46_apply, val_main_v44_apply, val_main_v45_apply, val_main_v37_apply, val_main_v43_apply, val_main_v35_apply, val_main_v36_apply,
    val_main_v41_apply, val_main_v42_apply, val_main_v32_apply, val_main_v34_apply, val_main_v33_apply, val_main_v38_apply, val_main_v40_apply, val_main_v39_apply]
  have e1 : idx_main_v32 (idx_main_v35 (ix2 r j)) = ix2 r (0 : Fin 2) := by funext a; match a with | ⟨0, _⟩ => rfl | ⟨1, _⟩ => rfl
  have e2 : idx_main_v33 (idx_main_v34 (idx_main_v36 (ix2 r j))) = ix2 j (0 : Fin 2) := by funext a; match a with | ⟨0, _⟩ => rfl | ⟨1, _⟩ => rfl
  have e3 : idx_main_v38 (idx_main_v41 (ix2 r j)) = ix2 r (1 : Fin 2) := by funext a; match a with | ⟨0, _⟩ => rfl | ⟨1, _⟩ => rfl
  have e4 : idx_main_v39 (idx_main_v40 (idx_main_v42 (ix2 r j))) = ix2 j (1 : Fin 2) := by funext a; match a with | ⟨0, _⟩ => rfl | ⟨1, _⟩ => rfl
  rw [e1, e2, e3, e4]
  rfl

/-- Same node or not. -/
theorem diag_ref (r j : Fin 4096) : val_main_v65 (F := Ideal) (ix2 r j) = BitVec.ofBool (decide (r = j)) := by
  show BitVec.ofBool (decide (BitVec.ofNat 32 r.val = BitVec.ofNat 32 j.val)) = _
  congr 1
  refine decide_eq_decide.mpr ⟨fun h => ?_, fun h => by rw [h]⟩
  have := congrArg BitVec.toNat h
  simp only [BitVec.toNat_ofNat] at this
  have ha := r.isLt; have hb := j.isLt
  exact Fin.ext (by omega)

theorem through_ref0 (r : Fin 4096) (e : Fin 64) : val_main_v55 (F := Ideal) (arg m c main_arg0) (arg m c main_arg2) (arg m c main_arg3) (arg m c main_arg4) (arg m c main_arg5) (arg m c main_arg6) (arg m c main_arg7) (arg m c main_arg8) (arg m c main_arg9) (arg m c main_arg12) (ix2 r e) = through m c 0 r e := by
  rw [val_main_v55_apply]
  refine Finset.sum_congr rfl fun q _ => ?_
  rw [val_main_v54_apply, val_main_v53_apply]
  have e1 : lidx_main_v55 (ix2 r e) q = ix2 r q := by funext a; match a with | ⟨0, _⟩ => rfl | ⟨1, _⟩ => rfl
  have e2 : idx_main_v53 (idx_main_v54 (ridx_main_v55 (ix2 r e) q)) = ix3 (0 : Fin 3) q e := by
    funext a
    have hq := q.isLt; have he := e.isLt
    refine Fin.ext ?_
    match a with
    | ⟨0, _⟩ => rfl
    | ⟨1, _⟩ => show (q.val * 64 + e.val) / 64 % 64 = q.val; omega
    | ⟨2, _⟩ => show (q.val * 64 + e.val) % 64 = e.val; omega
  rw [e1, e2]
  rfl
theorem alike_ref0 (r j : Fin 4096) : val_main_v60 (F := Ideal) (arg m c main_arg0) (arg m c main_arg2) (arg m c main_arg3) (arg m c main_arg4) (arg m c main_arg5) (arg m c main_arg6) (arg m c main_arg7) (arg m c main_arg8) (arg m c main_arg9) (arg m c main_arg12) (ix2 r j) = alike m c 0 r j := by
  rw [val_main_v60_apply, val_main_v59_apply, val_main_v57_apply]
  have e : ∀ e : Fin 64, val_main_v55 (F := Ideal) (arg m c main_arg0) (arg m c main_arg2) (arg m c main_arg3) (arg m c main_arg4) (arg m c main_arg5) (arg m c main_arg6) (arg m c main_arg7) (arg m c main_arg8) (arg m c main_arg9) (arg m c main_arg12) (lidx_main_v57 (ix2 r j) e) * val_main_v56 (F := Ideal) (arg m c main_arg0) (arg m c main_arg2) (arg m c main_arg3) (arg m c main_arg4) (arg m c main_arg5) (arg m c main_arg6) (arg m c main_arg7) (arg m c main_arg8) (arg m c main_arg9) (ridx_main_v57 (ix2 r j) e)
      = through m c 0 r e * feat m c (ix2 j e) := by
    intro e
    rw [val_main_v56_apply]
    have e1 : lidx_main_v57 (ix2 r j) e = ix2 r e := by funext a; match a with | ⟨0, _⟩ => rfl | ⟨1, _⟩ => rfl
    have e2 : idx_main_v56 (ridx_main_v57 (ix2 r j) e) = ix2 j e := by funext a; match a with | ⟨0, _⟩ => rfl | ⟨1, _⟩ => rfl
    rw [e1, e2, through_ref0]
    rfl
  rw [Finset.sum_congr rfl fun e' _ => e e']
  rfl

theorem through_ref1 (r : Fin 4096) (e : Fin 64) : val_main_v84 (F := Ideal) (arg m c main_arg0) (arg m c main_arg2) (arg m c main_arg3) (arg m c main_arg4) (arg m c main_arg5) (arg m c main_arg6) (arg m c main_arg7) (arg m c main_arg8) (arg m c main_arg9) (arg m c main_arg12) (ix2 r e) = through m c 1 r e := by
  rw [val_main_v84_apply]
  refine Finset.sum_congr rfl fun q _ => ?_
  rw [val_main_v83_apply, val_main_v82_apply]
  have e1 : lidx_main_v84 (ix2 r e) q = ix2 r q := by funext a; match a with | ⟨0, _⟩ => rfl | ⟨1, _⟩ => rfl
  have e2 : idx_main_v82 (idx_main_v83 (ridx_main_v84 (ix2 r e) q)) = ix3 (1 : Fin 3) q e := by
    funext a
    have hq := q.isLt; have he := e.isLt
    refine Fin.ext ?_
    match a with
    | ⟨0, _⟩ => rfl
    | ⟨1, _⟩ => show (q.val * 64 + e.val) / 64 % 64 = q.val; omega
    | ⟨2, _⟩ => show (q.val * 64 + e.val) % 64 = e.val; omega
  rw [e1, e2]
  rfl
theorem alike_ref1 (r j : Fin 4096) : val_main_v89 (F := Ideal) (arg m c main_arg0) (arg m c main_arg2) (arg m c main_arg3) (arg m c main_arg4) (arg m c main_arg5) (arg m c main_arg6) (arg m c main_arg7) (arg m c main_arg8) (arg m c main_arg9) (arg m c main_arg12) (ix2 r j) = alike m c 1 r j := by
  rw [val_main_v89_apply, val_main_v88_apply, val_main_v86_apply]
  have e : ∀ e : Fin 64, val_main_v84 (F := Ideal) (arg m c main_arg0) (arg m c main_arg2) (arg m c main_arg3) (arg m c main_arg4) (arg m c main_arg5) (arg m c main_arg6) (arg m c main_arg7) (arg m c main_arg8) (arg m c main_arg9) (arg m c main_arg12) (lidx_main_v86 (ix2 r j) e) * val_main_v85 (F := Ideal) (arg m c main_arg0) (arg m c main_arg2) (arg m c main_arg3) (arg m c main_arg4) (arg m c main_arg5) (arg m c main_arg6) (arg m c main_arg7) (arg m c main_arg8) (arg m c main_arg9) (ridx_main_v86 (ix2 r j) e)
      = through m c 1 r e * feat m c (ix2 j e) := by
    intro e
    rw [val_main_v85_apply]
    have e1 : lidx_main_v86 (ix2 r j) e = ix2 r e := by funext a; match a with | ⟨0, _⟩ => rfl | ⟨1, _⟩ => rfl
    have e2 : idx_main_v85 (ridx_main_v86 (ix2 r j) e) = ix2 j e := by funext a; match a with | ⟨0, _⟩ => rfl | ⟨1, _⟩ => rfl
    rw [e1, e2, through_ref1]
    rfl
  rw [Finset.sum_congr rfl fun e' _ => e e']
  rfl

theorem through_ref2 (r : Fin 4096) (e : Fin 64) : val_main_v113 (F := Ideal) (arg m c main_arg0) (arg m c main_arg2) (arg m c main_arg3) (arg m c main_arg4) (arg m c main_arg5) (arg m c main_arg6) (arg m c main_arg7) (arg m c main_arg8) (arg m c main_arg9) (arg m c main_arg12) (ix2 r e) = through m c 2 r e := by
  rw [val_main_v113_apply]
  refine Finset.sum_congr rfl fun q _ => ?_
  rw [val_main_v112_apply, val_main_v111_apply]
  have e1 : lidx_main_v113 (ix2 r e) q = ix2 r q := by funext a; match a with | ⟨0, _⟩ => rfl | ⟨1, _⟩ => rfl
  have e2 : idx_main_v111 (idx_main_v112 (ridx_main_v113 (ix2 r e) q)) = ix3 (2 : Fin 3) q e := by
    funext a
    have hq := q.isLt; have he := e.isLt
    refine Fin.ext ?_
    match a with
    | ⟨0, _⟩ => rfl
    | ⟨1, _⟩ => show (q.val * 64 + e.val) / 64 % 64 = q.val; omega
    | ⟨2, _⟩ => show (q.val * 64 + e.val) % 64 = e.val; omega
  rw [e1, e2]
  rfl
theorem alike_ref2 (r j : Fin 4096) : val_main_v118 (F := Ideal) (arg m c main_arg0) (arg m c main_arg2) (arg m c main_arg3) (arg m c main_arg4) (arg m c main_arg5) (arg m c main_arg6) (arg m c main_arg7) (arg m c main_arg8) (arg m c main_arg9) (arg m c main_arg12) (ix2 r j) = alike m c 2 r j := by
  rw [val_main_v118_apply, val_main_v117_apply, val_main_v115_apply]
  have e : ∀ e : Fin 64, val_main_v113 (F := Ideal) (arg m c main_arg0) (arg m c main_arg2) (arg m c main_arg3) (arg m c main_arg4) (arg m c main_arg5) (arg m c main_arg6) (arg m c main_arg7) (arg m c main_arg8) (arg m c main_arg9) (arg m c main_arg12) (lidx_main_v115 (ix2 r j) e) * val_main_v114 (F := Ideal) (arg m c main_arg0) (arg m c main_arg2) (arg m c main_arg3) (arg m c main_arg4) (arg m c main_arg5) (arg m c main_arg6) (arg m c main_arg7) (arg m c main_arg8) (arg m c main_arg9) (ridx_main_v115 (ix2 r j) e)
      = through m c 2 r e * feat m c (ix2 j e) := by
    intro e
    rw [val_main_v114_apply]
    have e1 : lidx_main_v115 (ix2 r j) e = ix2 r e := by funext a; match a with | ⟨0, _⟩ => rfl | ⟨1, _⟩ => rfl
    have e2 : idx_main_v114 (ridx_main_v115 (ix2 r j) e) = ix2 j e := by funext a; match a with | ⟨0, _⟩ => rfl | ⟨1, _⟩ => rfl
    rw [e1, e2, through_ref2]
    rfl
  rw [Finset.sum_congr rfl fun e' _ => e e']
  rfl

theorem prior_ref0 (r j : Fin 4096) : val_main_v81 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix2 r j)
    = refEntry (lenW 0) (val_main_v46 (F := Ideal) (arg m c main_arg1) (ix2 r j)) (val_main_v60 (F := Ideal) (arg m c main_arg0) (arg m c main_arg2) (arg m c main_arg3) (arg m c main_arg4) (arg m c main_arg5) (arg m c main_arg6) (arg m c main_arg7) (arg m c main_arg8) (arg m c main_arg9) (arg m c main_arg12) (ix2 r j)) (val_main_v65 (F := Ideal) (ix2 r j)) := rfl

theorem prior_ref1 (r j : Fin 4096) : val_main_v110 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix2 r j)
    = refEntry (lenW 1) (val_main_v46 (F := Ideal) (arg m c main_arg1) (ix2 r j)) (val_main_v89 (F := Ideal) (arg m c main_arg0) (arg m c main_arg2) (arg m c main_arg3) (arg m c main_arg4) (arg m c main_arg5) (arg m c main_arg6) (arg m c main_arg7) (arg m c main_arg8) (arg m c main_arg9) (arg m c main_arg12) (ix2 r j)) (val_main_v94 (F := Ideal) (ix2 r j)) := rfl

theorem prior_ref2 (r j : Fin 4096) : val_main_v139 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix2 r j)
    = refEntry (lenW 2) (val_main_v46 (F := Ideal) (arg m c main_arg1) (ix2 r j)) (val_main_v118 (F := Ideal) (arg m c main_arg0) (arg m c main_arg2) (arg m c main_arg3) (arg m c main_arg4) (arg m c main_arg5) (arg m c main_arg6) (arg m c main_arg7) (arg m c main_arg8) (arg m c main_arg9) (arg m c main_arg12) (ix2 r j)) (val_main_v123 (F := Ideal) (ix2 r j)) := rfl

/-- The reference's prior at an entry. -/
theorem prior_apply (k : Fin 3) (r j : Fin 4096) : prior m c k (ix2 r j) = refEntry (lenW k) (apart m c r j) (alike m c k r j) (BitVec.ofBool (decide (r = j))) := by
  rw [← apart_ref, ← diag_ref]
  match k with
  | ⟨0, _⟩ => exact (prior_ref0 m c r j).trans (by rw [alike_ref0]; rfl)
  | ⟨1, _⟩ => exact (prior_ref1 m c r j).trans (by rw [alike_ref1]; rfl)
  | ⟨2, _⟩ => exact (prior_ref2 m c r j).trans (by rw [alike_ref2]; rfl)

end

end Cert.KernelIdeal.Hand

end
-- ==== Proof.TopRef.lean ====
/- The reference's selection of the twenty greatest of a row. -/
module

public import proofs.«01_k».proof.Proof.Prior
public import Idealize.ShloMosaic.Lib.SortFacts
public import Idealize.ShloMosaic.Lib.Routing.OpsSet
public import Idealize.ShloMosaic.Lib.Routing.OpsPair

@[expose] public section

set_option maxRecDepth 16384

noncomputable section

namespace Cert.KernelIdeal.Hand

open Idealize.ShloMosaic hiding ix1 ix2 ix3 addf_apply subf_apply mulf_apply maximumf_apply
open Idealize.ShloMosaic.TcCoe
open Idealize.SL.Sem
open Idealize.ShloMosaic.Pipeline Idealize.ShloMosaic.ValueIdx
open Cert.KernelIdeal Cert.KernelIdeal.Gen
open Cert.ReferenceIdeal.Read

open Cert.Scalars

/-- A square table. -/
abbrev Square : Shape := Cert.ReferenceIdeal.S4096x4096

/-- The column holding the `a`-th greatest entry of row `r`, equals in column order. -/
def ord (x : Square.Idx → EReal) (r : Fin 4096) : Fin 4096 → Fin 4096 :=
  sortedFrom (fun k k' => (FloatOps.cmpfTotal (F := Ideal) (φ := .f32) .gt (x (ix2 r k)) (x (ix2 r k'))) == 1#1)

/-- The column axis. -/
abbrev colAxis : Fin Square.rank := ⟨1, by decide⟩

theorem along_row (r a k : Fin 4096) : (ix2 r a : Square.Idx).along colAxis k = ix2 r k := by
  funext b
  match b with
  | ⟨0, _⟩ => rfl
  | ⟨1, _⟩ => rfl

theorem sort_rows (x : Square.Idx → EReal) (y : Square.Idx → BitVec 32) (r a : Fin 4096) :
    (Host.sort2 Square 1 (fun l r => FloatOps.cmpfTotal (F := Ideal) (φ := .f32) .gt l.1 r.1) x y).1 (ix2 r a) = x (ix2 r (ord x r a))
      ∧ (Host.sort2 Square 1 (fun l r => FloatOps.cmpfTotal (F := Ideal) (φ := .f32) .gt l.1 r.1) x y).2 (ix2 r a) = y (ix2 r (ord x r a)) := by
  have e : sortedFrom (fun k k' => (FloatOps.cmpfTotal (F := Ideal) (φ := .f32) .gt
      (x ((ix2 r a : Square.Idx).along colAxis k)) (x ((ix2 r a : Square.Idx).along colAxis k'))) == 1#1) a = ord x r a := by
    unfold ord
    refine congrArg (fun R => sortedFrom R a) (funext fun k => funext fun k' => ?_)
    rw [along_row r a k, along_row r a k']
  have f : ∀ q : Fin 4096, q = ord x r a → (ix2 r a : Square.Idx).along colAxis q = ix2 r (ord x r a) := fun q h => by rw [h, along_row]
  unfold Host.sort2
  rw [dif_pos (by decide)]
  exact ⟨congrArg x (f _ e), congrArg y (f _ e)⟩

/-- The place of column `a` of the `n` greatest, among all columns. -/
def place_of {n : Nat} (hn : n ≤ 4096) (a : Fin n) : Fin 4096 := ⟨a.val, by omega⟩

/-- Each entry's column number, as a word. -/
def colWords : Square.Idx → BitVec 32 := fun i => if hd : 1 < Square.rank then iotaInDim Square 32 ⟨1, hd⟩ i else 0#32

theorem top_values {n : Nat} (hn : n ≤ 4096) (x : Square.Idx → EReal) (h : Square.Slices (fun _ => 0) (⟨2, ![4096, n]⟩)) (r : Fin 4096) (a : Fin n) :
    (Host.topK (⟨2, ![4096, n]⟩) 1 (FloatOps.cmpfTotal (F := Ideal) (φ := .f32) .gt) x h).1 (ix2 r a) = x (ix2 r (ord x r (place_of hn a))) := by
  show extractStridedSlice _ _ (Host.sort2 Square 1 (fun l r => FloatOps.cmpfTotal (F := Ideal) (φ := .f32) .gt l.1 r.1) x colWords).1 h (ix2 r a) = _
  refine (extractStridedSlice_apply _ _ h (ix2 r a) (ix2 r (place_of hn a)) ?_).trans (sort_rows x colWords r _).1
  intro b
  match b with
  | ⟨0, _⟩ => exact (Nat.zero_add _).symm
  | ⟨1, _⟩ => exact (Nat.zero_add _).symm

theorem top_places {n : Nat} (hn : n ≤ 4096) (x : Square.Idx → EReal) (h : Square.Slices (fun _ => 0) (⟨2, ![4096, n]⟩)) (r : Fin 4096) (a : Fin n) :
    (Host.topK (⟨2, ![4096, n]⟩) 1 (FloatOps.cmpfTotal (F := Ideal) (φ := .f32) .gt) x h).2 (ix2 r a) = BitVec.ofNat 32 (ord x r (place_of hn a)).val := by
  show extractStridedSlice _ _ (Host.sort2 Square 1 (fun l r => FloatOps.cmpfTotal (F := Ideal) (φ := .f32) .gt l.1 r.1) x colWords).2 h (ix2 r a) = _
  refine (extractStridedSlice_apply _ _ h (ix2 r a) (ix2 r (place_of hn a)) ?_).trans ((sort_rows x colWords r _).2.trans ?_)
  · intro b
    match b with
    | ⟨0, _⟩ => exact (Nat.zero_add _).symm
    | ⟨1, _⟩ => exact (Nat.zero_add _).symm
  · unfold colWords
    rw [dif_pos (by decide)]; rfl

theorem ord_bijective (x : Square.Idx → EReal) (r : Fin 4096) : Function.Bijective (ord x r) :=
  ⟨sortedFrom_injective _, sortedFrom_surjective _⟩

theorem ord_anti (x : Square.Idx → EReal) (r : Fin 4096) (a b : Fin 4096) (h : a ≤ b) : x (ix2 r (ord x r b)) ≤ x (ix2 r (ord x r a)) := by
  rcases h.eq_or_lt with e | h
  · rw [e]
  have key : ∀ k k', ((FloatOps.cmpfTotal (F := Ideal) (φ := .f32) .gt (x (ix2 r k)) (x (ix2 r k'))) == 1#1) = decide (x (ix2 r k') < x (ix2 r k)) := by
    intro k k'
    rw [Ideal.cmpfTotal_def]
    show ((BitVec.ofBool (decide (x (ix2 r k') < x (ix2 r k)))) == 1#1) = _
    cases decide (x (ix2 r k') < x (ix2 r k)) <;> rfl
  have := sortedFrom_noInversion (fun k k' => decide (x (ix2 r k') < x (ix2 r k)))
    (fun k k' => (FloatOps.cmpfTotal (F := Ideal) (φ := .f32) .gt (x (ix2 r k)) (x (ix2 r k'))) == 1#1)
    (fun k k' e => by
      rw [key] at e
      exact decide_eq_false (not_lt.2 (le_of_lt (of_decide_eq_true e))))
    (fun k k' e => (key k k').trans e)
    (fun k l n e f => decide_eq_false (not_lt.2 ((not_lt.1 (of_decide_eq_false e)).trans (not_lt.1 (of_decide_eq_false f))))) a b h
  exact not_lt.1 (of_decide_eq_false this)

theorem word_int (n : ℕ) (h : n < 4096) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

theorem wrapped (n : ℕ) (h : n < 4096) (a : BitVec 32) :
    Scalar.select (IntOp.cmpi .slt (BitVec.ofNat 32 n) 0#32) a (BitVec.ofNat 32 n) = BitVec.ofNat 32 n := by
  refine Routing.wrap_of_lt _ _ ?_
  rw [BitVec.toNat_ofNat, Nat.mod_eq_of_lt (by omega)]
  norm_num; omega

/-- Ones scattered at the chosen places of each row. -/
theorem scattered (σ : Fin 4096 → Fin 4096 → Fin 4096) (z : Square.Idx → EReal) (idx : IVec (⟨3, ![4096, 20, 2]⟩ : Shape) 32) (o : (⟨2, ![4096, 20]⟩ : Shape).Idx → EReal)
    (hz : ∀ i, z i = 0) (ho : ∀ i, o i = 1)
    (hr : ∀ r (a : Fin 20), idx (ix3 r a 0) = BitVec.ofNat 32 r.val)
    (hc : ∀ r (a : Fin 20), idx (ix3 r a 1) = BitVec.ofNat 32 (σ r (place_of (by omega) a)).val) (r j : Fin 4096) :
    Host.scatter Cert.ReferenceIdeal.scatter_S4096x4096_S4096x20x2_S4096x20_n_01_01_2 (fun _ b => b) z idx o (ix2 r j)
      = if (∃ a : Fin 4096, a.val < 20 ∧ σ r a = j) then 1 else 0 := by
  have lands : ∀ (r' : Fin 4096) (a : Fin 20), Cert.ReferenceIdeal.scatter_S4096x4096_S4096x20x2_S4096x20_n_01_01_2.resultIdx? (ix2 r' a) idx = some (ix2 r j)
      ↔ r' = r ∧ σ r' (place_of (by omega) a) = j := by
    intro r' a
    refine (Routing.scatter_lands2 Cert.ReferenceIdeal.scatter_S4096x4096_S4096x20x2_S4096x20_n_01_01_2 rfl rfl rfl idx r' a r j).trans ?_
    have h0 : (idx (ix3 r' a 0)).toInt = (r'.val : ℤ) := by rw [hr, word_int _ r'.isLt]
    have h1 : (idx (ix3 r' a 1)).toInt = ((σ r' (place_of (by omega) a)).val : ℤ) := by rw [hc, word_int _ (Fin.isLt _)]
    constructor
    · rintro ⟨e, f⟩
      exact ⟨Fin.ext (Int.ofNat.inj (h0.symm.trans e)), Fin.ext (Int.ofNat.inj (h1.symm.trans f))⟩
    · rintro ⟨e, f⟩
      exact ⟨h0.trans (by rw [e]), h1.trans (by rw [f])⟩
  by_cases h : ∃ a : Fin 4096, a.val < 20 ∧ σ r a = j
  · rw [if_pos h]
    obtain ⟨a, ha, e⟩ := h
    exact Routing.scatter_set_hit _ z idx o (ix2 r j) 1 (fun k _ => ho k) (ix2 r ⟨a.val, ha⟩) ((lands r ⟨a.val, ha⟩).2 ⟨rfl, e⟩)
  · rw [if_neg h]
    refine (Routing.scatter_set_miss _ z idx o (ix2 r j) ?_).trans (hz _)
    intro k hk
    obtain ⟨r', a, rfl⟩ : ∃ (r' : Fin 4096) (a : Fin 20), k = ix2 r' a := ⟨k 0, k 1, by
      funext b
      match b with
      | ⟨0, _⟩ => rfl
      | ⟨1, _⟩ => rfl⟩
    obtain ⟨e, f⟩ := (lands r' a).1 hk
    subst e
    exact h ⟨place_of (by omega) a, a.isLt, f⟩

/-- The two index columns side by side. -/
theorem columns (x y : (⟨3, ![4096, 20, 1]⟩ : Shape).Idx → BitVec 32) (h) (r : Fin 4096) (a : Fin 20) :
    (concatenate (⟨3, ![4096, 20, 2]⟩ : Shape) 2 [⟨⟨3, ![4096, 20, 1]⟩, x⟩, ⟨⟨3, ![4096, 20, 1]⟩, y⟩] h) (ix3 r a 0) = x (ix3 r a 0)
      ∧ (concatenate (⟨3, ![4096, 20, 2]⟩ : Shape) 2 [⟨⟨3, ![4096, 20, 1]⟩, x⟩, ⟨⟨3, ![4096, 20, 1]⟩, y⟩] h) (ix3 r a 1) = y (ix3 r a 0) := by
  constructor
  · exact concatenate_pair_apply_left 2 x y h (ix3 r a 0) rfl (ix3 r a 0) (fun b => match b with
      | ⟨0, _⟩ => rfl
      | ⟨1, _⟩ => rfl
      | ⟨2, _⟩ => rfl)
  · exact concatenate_pair_apply_right 2 x y h (ix3 r a 1) rfl rfl (ix3 r a 0) (fun b => match b with
      | ⟨0, _⟩ => fun _ => rfl
      | ⟨1, _⟩ => fun _ => rfl
      | ⟨2, _⟩ => fun h => absurd rfl h) rfl

end Cert.KernelIdeal.Hand
-- ==== Proof.Chosen.lean ====
/- The reference's adjacency, entry by entry. -/
module

public import proofs.«01_k».proof.Proof.TopRef
public import Idealize.ShloMosaic.Lib.SortFacts
public import Idealize.ShloMosaic.Lib.Routing.OpsSet
public import Idealize.ShloMosaic.Lib.Routing.OpsPair

@[expose] public section

set_option maxRecDepth 16384

noncomputable section

namespace Cert.KernelIdeal.Hand

open Idealize.ShloMosaic hiding ix1 ix2 ix3 addf_apply subf_apply mulf_apply maximumf_apply
open Idealize.ShloMosaic.TcCoe
open Idealize.SL.Sem
open Idealize.ShloMosaic.Pipeline Idealize.ShloMosaic.ValueIdx
open Cert.KernelIdeal Cert.KernelIdeal.Gen
open Cert.ReferenceIdeal.Read

open Cert.Scalars

variable (m : (ℓ : Loc nD τ sig) → Buf (Elt Ideal) ℓ) (c : Dev nD)

/-- What the reference leaves of a prior: the entries at the columns of the row's twenty greatest. -/
def chosen (k : Fin 3) (r j : Fin 4096) : EReal :=
  if (∃ a : Fin 4096, a.val < 20 ∧ ord (prior m c k) r a = j) then prior m c k (ix2 r j) else 0

theorem row_word (r : Fin 4096) : val_main_v31 (F := Ideal) (ix2 r 0) = BitVec.ofNat 32 r.val :=
  (val_main_v31_apply (F := Ideal) (ix2 r 0)).trans (val_main_v30_apply (F := Ideal) _)

theorem rows0 (r : Fin 4096) (a : Fin 20) : val_main_v154 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix3 r a 0) = BitVec.ofNat 32 r.val := by
  unfold val_main_v154
  refine (columns _ _ _ r a).1.trans ?_
  refine (val_main_v152_apply (F := Ideal) (ix3 r a 0)).trans ((val_main_v151_apply (F := Ideal) _).trans ((val_main_v145_apply (F := Ideal) _).trans ?_))
  have e : (idx_main_v151 (idx_main_v152 (ix3 r a 0))) = ix2 r 0 := by
    funext b
    match b with
    | ⟨0, _⟩ => rfl
    | ⟨1, _⟩ => rfl
  rw [e, val_main_v142_apply, row_word, val_main_v141_apply, val_main_c_apply]
  exact wrapped r.val r.isLt _

theorem cols0 (r : Fin 4096) (a : Fin 20) : val_main_v154 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix3 r a 1) = BitVec.ofNat 32 (ord (prior m c 0) r (place_of (by omega) a)).val := by
  have t : val_main_indices (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix2 r a) = BitVec.ofNat 32 (ord (prior m c 0) r (place_of (by omega) a)).val := by
    unfold val_main_indices
    exact top_places (by omega) (prior m c 0) _ r a
  unfold val_main_v154
  refine (columns _ _ _ r a).2.trans ?_
  refine (val_main_v153_apply (F := Ideal) _ _ _ _ _ _ _ _ _ _ _ (ix3 r a 0)).trans ((val_main_v150_apply (F := Ideal) _ _ _ _ _ _ _ _ _ _ _ _).trans ?_)
  have e : (idx_main_v153 (ix3 r a 0)) = ix2 r a := by
    funext b
    match b with
    | ⟨0, _⟩ => rfl
    | ⟨1, _⟩ => rfl
  rw [e, val_main_v147_apply, t, val_main_v146_apply, val_main_c_21_apply]
  exact wrapped _ (Fin.isLt _) _

theorem chosen0 (r j : Fin 4096) : val_main_v157 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix2 r j) = chosen m c 0 r j := by
  rw [val_main_v157_apply]
  unfold val_main_v156
  refine (congrArg (fun t : EReal => t * prior m c 0 (ix2 r j)) (scattered (fun r => ord (prior m c 0) r) _ _ _ (fun i => ?_) (fun i => ?_) (rows0 m c) (cols0 m c) r j)).trans ?_
  · rw [val_main_v140_apply]; exact Ideal.ofBits_zero_f32
  · rw [val_main_v155_apply]; exact lit_one
  · unfold chosen
    split_ifs
    · exact one_mul _
    · exact zero_mul _

theorem rows1 (r : Fin 4096) (a : Fin 20) : val_main_v172 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix3 r a 0) = BitVec.ofNat 32 r.val := by
  unfold val_main_v172
  refine (columns _ _ _ r a).1.trans ?_
  refine (val_main_v170_apply (F := Ideal) (ix3 r a 0)).trans ((val_main_v169_apply (F := Ideal) _).trans ((val_main_v163_apply (F := Ideal) _).trans ?_))
  have e : (idx_main_v169 (idx_main_v170 (ix3 r a 0))) = ix2 r 0 := by
    funext b
    match b with
    | ⟨0, _⟩ => rfl
    | ⟨1, _⟩ => rfl
  rw [e, val_main_v160_apply, row_word, val_main_v159_apply, val_main_c_27_apply]
  exact wrapped r.val r.isLt _

theorem cols1 (r : Fin 4096) (a : Fin 20) : val_main_v172 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix3 r a 1) = BitVec.ofNat 32 (ord (prior m c 1) r (place_of (by omega) a)).val := by
  have t : val_main_indices_25 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix2 r a) = BitVec.ofNat 32 (ord (prior m c 1) r (place_of (by omega) a)).val := by
    unfold val_main_indices_25
    exact top_places (by omega) (prior m c 1) _ r a
  unfold val_main_v172
  refine (columns _ _ _ r a).2.trans ?_
  refine (val_main_v171_apply (F := Ideal) _ _ _ _ _ _ _ _ _ _ _ (ix3 r a 0)).trans ((val_main_v168_apply (F := Ideal) _ _ _ _ _ _ _ _ _ _ _ _).trans ?_)
  have e : (idx_main_v171 (ix3 r a 0)) = ix2 r a := by
    funext b
    match b with
    | ⟨0, _⟩ => rfl
    | ⟨1, _⟩ => rfl
  rw [e, val_main_v165_apply, t, val_main_v164_apply, val_main_c_29_apply]
  exact wrapped _ (Fin.isLt _) _

theorem chosen1 (r j : Fin 4096) : val_main_v175 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix2 r j) = chosen m c 1 r j := by
  rw [val_main_v175_apply]
  unfold val_main_v174
  refine (congrArg (fun t : EReal => t * prior m c 1 (ix2 r j)) (scattered (fun r => ord (prior m c 1) r) _ _ _ (fun i => ?_) (fun i => ?_) (rows1 m c) (cols1 m c) r j)).trans ?_
  · rw [val_main_v158_apply]; exact Ideal.ofBits_zero_f32
  · rw [val_main_v173_apply]; exact lit_one
  · unfold chosen
    split_ifs
    · exact one_mul _
    · exact zero_mul _

theorem rows2 (r : Fin 4096) (a : Fin 20) : val_main_v190 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix3 r a 0) = BitVec.ofNat 32 r.val := by
  unfold val_main_v190
  refine (columns _ _ _ r a).1.trans ?_
  refine (val_main_v188_apply (F := Ideal) (ix3 r a 0)).trans ((val_main_v187_apply (F := Ideal) _).trans ((val_main_v181_apply (F := Ideal) _).trans ?_))
  have e : (idx_main_v187 (idx_main_v188 (ix3 r a 0))) = ix2 r 0 := by
    funext b
    match b with
    | ⟨0, _⟩ => rfl
    | ⟨1, _⟩ => rfl
  rw [e, val_main_v178_apply, row_word, val_main_v177_apply, val_main_c_35_apply]
  exact wrapped r.val r.isLt _

theorem cols2 (r : Fin 4096) (a : Fin 20) : val_main_v190 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix3 r a 1) = BitVec.ofNat 32 (ord (prior m c 2) r (place_of (by omega) a)).val := by
  have t : val_main_indices_33 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix2 r a) = BitVec.ofNat 32 (ord (prior m c 2) r (place_of (by omega) a)).val := by
    unfold val_main_indices_33
    exact top_places (by omega) (prior m c 2) _ r a
  unfold val_main_v190
  refine (columns _ _ _ r a).2.trans ?_
  refine (val_main_v189_apply (F := Ideal) _ _ _ _ _ _ _ _ _ _ _ (ix3 r a 0)).trans ((val_main_v186_apply (F := Ideal) _ _ _ _ _ _ _ _ _ _ _ _).trans ?_)
  have e : (idx_main_v189 (ix3 r a 0)) = ix2 r a := by
    funext b
    match b with
    | ⟨0, _⟩ => rfl
    | ⟨1, _⟩ => rfl
  rw [e, val_main_v183_apply, t, val_main_v182_apply, val_main_c_37_apply]
  exact wrapped _ (Fin.isLt _) _

theorem chosen2 (r j : Fin 4096) : val_main_v193 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (ix2 r j) = chosen m c 2 r j := by
  rw [val_main_v193_apply]
  unfold val_main_v192
  refine (congrArg (fun t : EReal => t * prior m c 2 (ix2 r j)) (scattered (fun r => ord (prior m c 2) r) _ _ _ (fun i => ?_) (fun i => ?_) (rows2 m c) (cols2 m c) r j)).trans ?_
  · rw [val_main_v176_apply]; exact Ideal.ofBits_zero_f32
  · rw [val_main_v191_apply]; exact lit_one
  · unfold chosen
    split_ifs
    · exact one_mul _
    · exact zero_mul _

theorem stacked (x y z : Cert.ReferenceIdeal.S1x4096x4096.Idx → EReal) (h) (r j : Fin 4096) :
    concatenate Cert.ReferenceIdeal.S3x4096x4096 0 [⟨Cert.ReferenceIdeal.S1x4096x4096, x⟩, ⟨Cert.ReferenceIdeal.S1x4096x4096, y⟩, ⟨Cert.ReferenceIdeal.S1x4096x4096, z⟩] h (ix3 0 r j) = x (ix3 0 r j)
    ∧ concatenate Cert.ReferenceIdeal.S3x4096x4096 0 [⟨Cert.ReferenceIdeal.S1x4096x4096, x⟩, ⟨Cert.ReferenceIdeal.S1x4096x4096, y⟩, ⟨Cert.ReferenceIdeal.S1x4096x4096, z⟩] h (ix3 1 r j) = y (ix3 0 r j)
    ∧ concatenate Cert.ReferenceIdeal.S3x4096x4096 0 [⟨Cert.ReferenceIdeal.S1x4096x4096, x⟩, ⟨Cert.ReferenceIdeal.S1x4096x4096, y⟩, ⟨Cert.ReferenceIdeal.S1x4096x4096, z⟩] h (ix3 2 r j) = z (ix3 0 r j) := by
  have e : ∀ (q : Cert.ReferenceIdeal.S1x4096x4096.Idx), (q 1).val = r.val → (q 2).val = j.val → q = ix3 0 r j := by
    intro q h1 h2
    funext b
    match b with
    | ⟨0, _⟩ => exact Fin.ext (Nat.lt_one_iff.1 (q 0).isLt)
    | ⟨1, _⟩ => exact Fin.ext h1
    | ⟨2, _⟩ => exact Fin.ext h2
  exact ⟨congrArg x (e _ rfl rfl), congrArg y (e _ rfl rfl), congrArg z (e _ rfl rfl)⟩

/-- The reference's third result. -/
def picked : (⟨Cert.ReferenceIdeal.S3x4096x4096, .f32⟩ : BufTy).Contents (Elt Ideal) := val_main_v197 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12)

theorem picked_apply (k : Fin 3) (r j : Fin 4096) : picked m c (ix3 k r j) = chosen m c k r j := by
  have e : ∀ q : Cert.ReferenceIdeal.S4096x4096.Idx, (q 0).val = r.val → (q 1).val = j.val → q = ix2 r j := by
    intro q h1 h2
    funext b
    match b with
    | ⟨0, _⟩ => exact Fin.ext h1
    | ⟨1, _⟩ => exact Fin.ext h2
  unfold picked val_main_v197
  match k with
  | ⟨0, _⟩ =>
    refine (stacked _ _ _ _ r j).1.trans ((val_main_v194_apply (F := Ideal) _ _ _ _ _ _ _ _ _ _ _ _).trans ?_)
    rw [e (idx_main_v194 (ix3 0 r j)) rfl rfl]
    exact chosen0 m c r j
  | ⟨1, _⟩ =>
    refine (stacked _ _ _ _ r j).2.1.trans ((val_main_v195_apply (F := Ideal) _ _ _ _ _ _ _ _ _ _ _ _).trans ?_)
    rw [e (idx_main_v195 (ix3 0 r j)) rfl rfl]
    exact chosen1 m c r j
  | ⟨2, _⟩ =>
    refine (stacked _ _ _ _ r j).2.2.trans ((val_main_v196_apply (F := Ideal) _ _ _ _ _ _ _ _ _ _ _ _).trans ?_)
    rw [e (idx_main_v196 (ix3 0 r j)) rfl rfl]
    exact chosen2 m c r j

end Cert.KernelIdeal.Hand
-- ==== Proof.Asked.lean ====
/- What the precondition says of the places and of each row's order. -/
module

public import proofs.«01_k».proof.Proof.TopRef
public import proofs.«01_k».proof.Proof.Gen.Pre_strict_top
public import Idealize.ShloMosaic.Lib.SortFacts
public import Idealize.ShloMosaic.Lib.Routing.OpsSet
public import Idealize.ShloMosaic.Lib.Routing.OpsPair

@[expose] public section

set_option maxRecDepth 16384

noncomputable section

namespace Cert.KernelIdeal.Hand

open Idealize.ShloMosaic hiding ix1 ix2 ix3 addf_apply subf_apply mulf_apply maximumf_apply
open Idealize.ShloMosaic.TcCoe
open Idealize.SL.Sem
open Idealize.ShloMosaic.Pipeline Idealize.ShloMosaic.ValueIdx
open Cert.KernelIdeal Cert.KernelIdeal.Gen
open Cert.ReferenceIdeal.Read

open Cert.Scalars

variable (m : (ℓ : Loc nD τ sig) → Buf (Elt Ideal) ℓ) (c : Dev nD)

/-- The greatest twenty-one of each row. -/
def tops (x : Square.Idx → EReal) : FVec Ideal Cert.Pre_strict_top.S4096x21 .f32 :=
  (Host.topK Cert.Pre_strict_top.S4096x21 1 (FloatOps.cmpfTotal (F := Ideal) (φ := .f32) .gt) x Cert.Pre_strict_top.Facts.sliceFits_S4096x4096_S4096x21).1

/-- The bits the precondition asks of a prior. -/
def orderly (x : Square.Idx → EReal) : IVec Cert.Pre_strict_top.S4096x20 1 :=
  ori
    (cmpf (F := Ideal) (φ := .f32) .ogt (extractStridedSlice Cert.Pre_strict_top.S4096x20 ![0, 0] (tops x) Cert.Pre_strict_top.Facts.slices_S4096x21_S4096x20_0_0)
      (extractStridedSlice Cert.Pre_strict_top.S4096x20 ![0, 1] (tops x) Cert.Pre_strict_top.Facts.slices_S4096x21_S4096x20_0_1))
    (broadcastInDim Cert.Pre_strict_top.S4096x20 ![0, 1] Cert.Pre_strict_top.Facts.bcast_S4096x1_S4096x20_0_1
      (cmpf (F := Ideal) (φ := .f32) .oeq (extractStridedSlice Cert.Pre_strict_top.S4096x1 ![0, 20] (tops x) Cert.Pre_strict_top.Facts.slices_S4096x21_S4096x1_0_20)
        (broadcastInDim Cert.Pre_strict_top.S4096x1 ![] Cert.Pre_strict_top.Facts.bcast_S_S4096x1 (constant (F := Ideal) Cert.Pre_strict_top.S_ .f32 0x00000000#32))))

/-- The bits it asks of the places. -/
def placed (x : FVec Ideal Cert.Pre_strict_top.S4096x2 .f32) : IVec Cert.Pre_strict_top.S4096x2 1 :=
  cmpf (F := Ideal) (φ := .f32) .oeq (subf x x) (broadcastInDim Cert.Pre_strict_top.S4096x2 ![] Cert.Pre_strict_top.Facts.bcast_S_S4096x2 (constant (F := Ideal) Cert.Pre_strict_top.S_ .f32 0x00000000#32))

theorem asked : Cert.Pre_strict_top.fn (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
    = (placed (arg m c main_arg1), orderly (prior m c 0), orderly (prior m c 1), orderly (prior m c 2)) := rfl

theorem tops_apply (x : Square.Idx → EReal) (r : Fin 4096) (a : Fin 21) : tops x (ix2 r a) = x (ix2 r (ord x r (place_of (by omega) a))) :=
  top_values (by omega) x _ r a

theorem of_bit (p : Prop) [Decidable p] (h : BitVec.ofBool (decide p) = 1#1) : p := by
  by_contra hp
  rw [decide_eq_false hp] at h
  exact absurd h (by decide)

theorem of_either (p q : Prop) [Decidable p] [Decidable q] (h : IntOp.ori (BitVec.ofBool (decide p)) (BitVec.ofBool (decide q)) = 1#1) : p ∨ q := by
  by_contra hpq
  rw [not_or] at hpq
  rw [decide_eq_false hpq.1, decide_eq_false hpq.2] at h
  exact absurd h (by decide)

/-- Each row's first twenty-one entries descend strictly, or the twenty-first is zero. -/
theorem orderly_row (x : Square.Idx → EReal) (h : orderly x = fun _ => 1#1) (r : Fin 4096) :
    (∀ a : ℕ, (ha : a < 20) → x (ix2 r (ord x r ⟨a + 1, by omega⟩)) < x (ix2 r (ord x r ⟨a, by omega⟩))) ∨ x (ix2 r (ord x r ⟨20, by omega⟩)) = 0 := by
  by_cases hz : x (ix2 r (ord x r ⟨20, by omega⟩)) = 0
  · exact Or.inr hz
  refine Or.inl fun a ha => ?_
  have e := congrFun h (ix2 r (⟨a, ha⟩ : Fin 20))
  have e1 : extractStridedSlice Cert.Pre_strict_top.S4096x20 ![0, 0] (tops x) Cert.Pre_strict_top.Facts.slices_S4096x21_S4096x20_0_0 (ix2 r (⟨a, ha⟩ : Fin 20)) = x (ix2 r (ord x r ⟨a, by omega⟩)) :=
    (extractStridedSlice_apply _ _ _ _ (ix2 r (⟨a, by omega⟩ : Fin 21)) (fun b => match b with
      | ⟨0, _⟩ => (Nat.zero_add _).symm
      | ⟨1, _⟩ => (Nat.zero_add _).symm)).trans (tops_apply x r _)
  have e2 : extractStridedSlice Cert.Pre_strict_top.S4096x20 ![0, 1] (tops x) Cert.Pre_strict_top.Facts.slices_S4096x21_S4096x20_0_1 (ix2 r (⟨a, ha⟩ : Fin 20)) = x (ix2 r (ord x r ⟨a + 1, by omega⟩)) :=
    (extractStridedSlice_apply _ _ _ _ (ix2 r (⟨a + 1, by omega⟩ : Fin 21)) (fun b => match b with
      | ⟨0, _⟩ => (Nat.zero_add _).symm
      | ⟨1, _⟩ => Nat.add_comm _ _)).trans (tops_apply x r _)
  have e3 : extractStridedSlice Cert.Pre_strict_top.S4096x1 ![0, 20] (tops x) Cert.Pre_strict_top.Facts.slices_S4096x21_S4096x1_0_20 (ix2 r (0 : Fin 1)) = x (ix2 r (ord x r ⟨20, by omega⟩)) :=
    (extractStridedSlice_apply _ _ _ _ (ix2 r (⟨20, by omega⟩ : Fin 21)) (fun b => match b with
      | ⟨0, _⟩ => (Nat.zero_add _).symm
      | ⟨1, _⟩ => rfl)).trans (tops_apply x r _)
  have e4 : (broadcastInDim Cert.Pre_strict_top.S4096x20 ![0, 1] Cert.Pre_strict_top.Facts.bcast_S4096x1_S4096x20_0_1
      (cmpf (F := Ideal) (φ := .f32) .oeq (extractStridedSlice Cert.Pre_strict_top.S4096x1 ![0, 20] (tops x) Cert.Pre_strict_top.Facts.slices_S4096x21_S4096x1_0_20)
        (broadcastInDim Cert.Pre_strict_top.S4096x1 ![] Cert.Pre_strict_top.Facts.bcast_S_S4096x1 (constant (F := Ideal) Cert.Pre_strict_top.S_ .f32 0x00000000#32)))) (ix2 r (⟨a, ha⟩ : Fin 20))
      = BitVec.ofBool (decide (x (ix2 r (ord x r ⟨20, by omega⟩)) = Ideal.ofBits .f32 0x00000000#32)) := by
    refine (broadcastInDim_apply _ _ _ _ (ix2 r (0 : Fin 1)) (fun b => match b with
      | ⟨0, _⟩ => by show r.val = if (4096 : ℕ) = 1 then 0 else r.val; rw [if_neg (by decide)]
      | ⟨1, _⟩ => by show 0 = if (1 : ℕ) = 1 then 0 else _; rw [if_pos rfl])).trans ?_
    rw [← e3]
    rfl
  have e5 : IntOp.ori (BitVec.ofBool (decide (x (ix2 r (ord x r ⟨a + 1, by omega⟩)) < x (ix2 r (ord x r ⟨a, by omega⟩)))))
      (BitVec.ofBool (decide (x (ix2 r (ord x r ⟨20, by omega⟩)) = Ideal.ofBits .f32 0x00000000#32))) = 1#1 := by
    rw [← e4, ← e1, ← e2]
    exact e
  rcases of_either _ _ e5 with h1 | h1
  · exact h1
  · exact absurd (h1.trans Ideal.ofBits_zero_f32) hz

/-- Places that pass the precondition are real. -/
theorem placed_real (x : FVec Ideal Cert.Pre_strict_top.S4096x2 .f32) (h : placed x = fun _ => 1#1) (i : Cert.Pre_strict_top.S4096x2.Idx) : ∃ q : ℝ, x i = (q : EReal) := by
  have e : BitVec.ofBool (decide ((x i : EReal) - x i = Ideal.ofBits .f32 0x00000000#32)) = 1#1 := congrFun h i
  have e' : (x i : EReal) - x i = 0 := (of_bit _ e).trans Ideal.ofBits_zero_f32
  generalize hy : (x i : EReal) = y at e'
  induction y using EReal.rec with
  | bot => exact absurd e' (by simp)
  | top => exact absurd e' (by simp)
  | coe q => exact ⟨q, rfl⟩

end Cert.KernelIdeal.Hand
-- ==== Proof.RawKernel.lean ====
/- The adjacency body's weights before the selection, entry by entry, and what its branch tests. -/
module

public import proofs.«01_k».proof.Proof.AdjKernelIdeal
public import proofs.«01_k».proof.Proof.Scalars
public import Idealize.ShloMosaic.PureOps.Ideal.Laws
public import Idealize.ShloMosaic.Lib.ValueLayout
public import Idealize.ShloMosaic.Lib.ValueLayoutCasts
public import Idealize.ShloMosaic.Lib.MatmulPlain
public import Idealize.ShloMosaic.Lib.Pipeline.ValueKit.Tiles

@[expose] public section

set_option maxRecDepth 16384

noncomputable section

namespace Cert.KernelIdeal.Hand

open Idealize.ShloMosaic Idealize.ShloMosaic.TcCoe
open Idealize.ShloMosaic.Pipeline Idealize.ShloMosaic.ValueIdx
open Cert.KernelIdeal Cert.KernelIdeal.Gen

/-! The numbers of one pair of nodes. -/

/-- The squared distance of a block's node and a node. -/
def gap (x2 : Vec Ideal S128x2 .f32) (x3 : Vec Ideal S2x4096 .f32) (r : Fin 128) (j : Fin 4096) : EReal :=
  (x2 (ix2 r (0 : Fin 2)) - x3 (ix2 (0 : Fin 2) j)) * (x2 (ix2 r (0 : Fin 2)) - x3 (ix2 (0 : Fin 2) j))
    + (x2 (ix2 r (1 : Fin 2)) - x3 (ix2 (1 : Fin 2) j)) * (x2 (ix2 r (1 : Fin 2)) - x3 (ix2 (1 : Fin 2) j))

/-- One if a squared distance is in range, else zero. -/
def near (g : EReal) : EReal := ((((Ideal.cmp .ole g ((1 / 10000 : ℝ) : EReal)).setWidth 32).toInt : ℝ) : EReal)

/-- The base factor of the decays. -/
def ebase (g : EReal) : EReal :=
  Ideal.exp ((g * Ideal.rsqrt (g + Ideal.ofBits .f32 0x0DA24260#32)) * ((-500 / 3 : ℝ) : EReal)) * near g

/-- The similarity of a block's node and a node, by the kernel number `k`. -/
def sim (x0 : Vec Ideal S3x128x64 .bf16) (x1 : Vec Ideal S64x4096 .bf16) (k : Fin 3) (r : Fin 128) (j : Fin 4096) : EReal :=
  ∑ e : Fin 64, x0 (ix3 k r e) * x1 (ix2 e j)

/-- The learned factor. -/
def soft (s : EReal) : EReal := Ideal.log1p (Ideal.exp (Ideal.tanh s))

section

variable (x0 : Vec Ideal S3x128x64 .bf16) (x1 : Vec Ideal S64x4096 .bf16) (x2 : Vec Ideal S128x2 .f32) (x3 : Vec Ideal S2x4096 .f32)

/-! Layout. -/

theorem column_apply (x : FVec Ideal S128x1 .f32) (r : Fin 128) (j : Fin 4096) :
    broadcastTo S128x4096 x broadcasts_S128x1_S128x4096 (ix2 r j) = x (ix2 r (0 : Fin 1)) := by
  refine broadcastTo_apply x _ _ _ fun a => ?_
  fin_cases a <;> rfl

theorem line_apply (x : FVec Ideal S1x4096 .f32) (r : Fin 128) (j : Fin 4096) :
    broadcastTo S128x4096 x broadcasts_S1x4096_S128x4096 (ix2 r j) = x (ix2 (0 : Fin 1) j) := by
  refine broadcastTo_apply x _ _ _ fun a => ?_
  fin_cases a <;> rfl

theorem same_cast {s : Shape} {α : Type} (x : s.Idx → α) (h : s.ShapeCasts s) (i : s.Idx) : shapeCast s x h i = x i :=
  shapeCast_apply x h _ _ rfl

theorem q0_apply (r : Fin 128) : View.ld x2 q0 (ix2 r (0 : Fin 1)) = x2 (ix2 r (0 : Fin 2)) :=
  View.ld_unit_apply_of _ _ _ _ _ _ fun a => by fin_cases a <;> simp
theorem q1_apply (r : Fin 128) : View.ld x2 q1 (ix2 r (0 : Fin 1)) = x2 (ix2 r (1 : Fin 2)) :=
  View.ld_unit_apply_of _ _ _ _ _ _ fun a => by fin_cases a <;> simp
theorem q2_apply (j : Fin 4096) : View.ld x3 q2 (ix2 (0 : Fin 1) j) = x3 (ix2 (0 : Fin 2) j) :=
  View.ld_unit_apply_of _ _ _ _ _ _ fun a => by fin_cases a <;> simp
theorem q3_apply (j : Fin 4096) : View.ld x3 q3 (ix2 (0 : Fin 1) j) = x3 (ix2 (1 : Fin 2) j) :=
  View.ld_unit_apply_of _ _ _ _ _ _ fun a => by fin_cases a <;> simp
theorem q4_eq : View.ld x1 q4 = x1 :=
  View.ld_unit_zero (by funext a; fin_cases a <;> rfl) _ _
theorem q5_eq : View.ld x0 q5 = x0 :=
  View.ld_unit_zero (by funext a; fin_cases a <;> rfl) _ _

/-! The squared distance, its test, the base factor. -/

theorem pay24_apply (r : Fin 128) (j : Fin 4096) :
    k1_pay24 (View.ld x2 q0) (View.ld x2 q1) (View.ld x3 q2) (View.ld x3 q3) (ix2 r j) = gap x2 x3 r j := by
  unfold k1_pay24
  rw [addf_apply, mulf_apply, mulf_apply, subf_apply, subf_apply, column_apply, column_apply, line_apply, line_apply, same_cast, same_cast,
    q0_apply, q1_apply, q2_apply, q3_apply]
  rfl

theorem pay25_apply (r : Fin 128) (j : Fin 4096) :
    k1_pay25 (View.ld x2 q0) (View.ld x2 q1) (View.ld x3 q2) (View.ld x3 q3) (ix2 r j) = near (gap x2 x3 r j) := by
  rw [← pay24_apply]; rfl

theorem pay26_apply (r : Fin 128) (j : Fin 4096) :
    k1_pay26 (View.ld x2 q0) (View.ld x2 q1) (View.ld x3 q2) (View.ld x3 q3) (ix2 r j) = ebase (gap x2 x3 r j) := by
  unfold ebase
  rw [← pay25_apply, ← pay24_apply]; rfl

theorem pay27_apply (r : Fin 128) (j : Fin 4096) :
    k1_pay27 (View.ld x2 q0) (View.ld x2 q1) (View.ld x3 q2) (View.ld x3 q3) (ix2 r j) = ebase (gap x2 x3 r j) * ebase (gap x2 x3 r j) := by
  rw [← pay26_apply]; rfl
theorem pay28_apply (r : Fin 128) (j : Fin 4096) :
    k1_pay28 (View.ld x2 q0) (View.ld x2 q1) (View.ld x3 q2) (View.ld x3 q3) (ix2 r j) = ebase (gap x2 x3 r j) * ebase (gap x2 x3 r j) * ebase (gap x2 x3 r j) := by
  rw [← pay26_apply]; rfl
theorem pay29_apply (r : Fin 128) (j : Fin 4096) :
    k1_pay29 (View.ld x2 q0) (View.ld x2 q1) (View.ld x3 q2) (View.ld x3 q3) (ix2 r j)
      = ebase (gap x2 x3 r j) * ebase (gap x2 x3 r j) * ebase (gap x2 x3 r j) * (ebase (gap x2 x3 r j) * ebase (gap x2 x3 r j) * ebase (gap x2 x3 r j)) := by
  rw [← pay26_apply]; rfl

/-! The similarities, all three in one product. -/

theorem stacked_apply (k : Fin 3) (r : Fin 128) (e : Fin 64) (h : k.val * 128 + r.val < 384) :
    shapeCast S384x64 x0 shapeCasts_S3x128x64_S384x64 (ix2 (⟨k.val * 128 + r.val, h⟩ : Fin 384) e) = x0 (ix3 k r e) :=
  shapeCast_apply x0 _ _ _ (by
    rw [Shape.rowMajor_val_three, Shape.rowMajor_val_two]
    show (k.val * 128 + r.val) * 64 + e.val = (k.val * 128 + r.val) * 64 + e.val
    rfl)

theorem pay33_apply (k : Fin 3) (r : Fin 128) (j : Fin 4096) (h : k.val * 128 + r.val < 384) :
    k1_pay33 (k1_pay32 (View.ld x1 q4)) (View.ld x0 q5) (ix2 (⟨k.val * 128 + r.val, h⟩ : Fin 384) j) = sim x0 x1 k r j := by
  unfold k1_pay33 k1_pay32
  refine (Ideal.matmul_plain_apply (M := 384) (K := 64) (N := 4096) none _ _ _ _ _).trans ?_
  refine Eq.trans (congrArg (· + _) Ideal.ofBits_zero_f32) ?_
  rw [zero_add]
  refine Finset.sum_congr rfl fun e _ => ?_
  rw [same_cast, q4_eq, q5_eq]
  refine congrArg (· * _) ?_
  refine Eq.trans ?_ (stacked_apply x0 k r e h)
  refine congrArg (fun f => shapeCast S384x64 f shapeCasts_S3x128x64_S384x64 _) ?_
  funext i
  exact same_cast _ _ _

theorem cut0 (x : FVec Ideal S384x4096 .f32) (r : Fin 128) (j : Fin 4096) :
    extractStridedSlice S128x4096 ![0, 0] x slices_S384x4096_o0_0_S128x4096 (ix2 r j) = x (ix2 (⟨(0 : Fin 3).val * 128 + r.val, by have := r.isLt; simp; omega⟩ : Fin 384) j) := by
  unfold extractStridedSlice; congr 1; funext a; apply Fin.ext; fin_cases a <;> simp
theorem cut1 (x : FVec Ideal S384x4096 .f32) (r : Fin 128) (j : Fin 4096) :
    extractStridedSlice S128x4096 ![128, 0] x slices_S384x4096_o128_0_S128x4096 (ix2 r j) = x (ix2 (⟨(1 : Fin 3).val * 128 + r.val, by have := r.isLt; simp; omega⟩ : Fin 384) j) := by
  unfold extractStridedSlice; congr 1; funext a; apply Fin.ext; fin_cases a <;> simp
theorem cut2 (x : FVec Ideal S384x4096 .f32) (r : Fin 128) (j : Fin 4096) :
    extractStridedSlice S128x4096 ![256, 0] x slices_S384x4096_o256_0_S128x4096 (ix2 r j) = x (ix2 (⟨(2 : Fin 3).val * 128 + r.val, by have := r.isLt; simp; omega⟩ : Fin 384) j) := by
  unfold extractStridedSlice; congr 1; funext a; apply Fin.ext; fin_cases a <;> simp

theorem raw0_apply (r : Fin 128) (j : Fin 4096) : raw0 x0 x1 x2 x3 (ix3 (0 : Fin 1) r j)
    = ebase (gap x2 x3 r j) * ebase (gap x2 x3 r j) * soft (sim x0 x1 0 r j) := by
  unfold raw0 k1_pay34
  refine (shapeCast_ab_1ab_apply _ _ _ _ _).trans ?_
  rw [mulf_apply, pay27_apply, ← pay33_apply x0 x1 0 r j (by have := r.isLt; simp; omega), ← cut0 (k1_pay33 (k1_pay32 (View.ld x1 q4)) (View.ld x0 q5))]
  rfl

theorem raw1_apply (r : Fin 128) (j : Fin 4096) : raw1 x0 x1 x2 x3 (ix3 (0 : Fin 1) r j)
    = ebase (gap x2 x3 r j) * ebase (gap x2 x3 r j) * ebase (gap x2 x3 r j) * (ebase (gap x2 x3 r j) * ebase (gap x2 x3 r j) * ebase (gap x2 x3 r j)) * soft (sim x0 x1 1 r j) := by
  unfold raw1 k1_pay37
  refine (shapeCast_ab_1ab_apply _ _ _ _ _).trans ?_
  rw [mulf_apply, pay29_apply, ← pay33_apply x0 x1 1 r j (by have := r.isLt; simp; omega), ← cut1 (k1_pay33 (k1_pay32 (View.ld x1 q4)) (View.ld x0 q5))]
  rfl

theorem raw2_apply (r : Fin 128) (j : Fin 4096) : raw2 x0 x1 x2 x3 (ix3 (0 : Fin 1) r j)
    = ebase (gap x2 x3 r j) * ebase (gap x2 x3 r j) * ebase (gap x2 x3 r j) * soft (sim x0 x1 2 r j) := by
  unfold raw2 k1_pay3
  refine (shapeCast_ab_1ab_apply _ _ _ _ _).trans ?_
  rw [mulf_apply, pay28_apply, ← pay33_apply x0 x1 2 r j (by have := r.isLt; simp; omega), ← cut2 (k1_pay33 (k1_pay32 (View.ld x1 q4)) (View.ld x0 q5))]
  rfl

/-! The branch. -/

/-- The branch's test of a count. -/
theorem above (x : EReal) (h : ((20.5 : ℝ) : EReal) < x) :
    Scalar.cmpi .ne (Scalar.extui (Scalar.cmpf (F := Ideal) (φ := .f32) .ogt x (Scalar.ofBits (F := Ideal) .f32 0x41A40000#32)) : BitVec 32) 0#32 = 1#1 := by
  have hc : Scalar.cmpf (F := Ideal) (φ := .f32) .ogt x (Scalar.ofBits (F := Ideal) .f32 0x41A40000#32) = 1#1 := by
    show BitVec.ofBool (decide (Ideal.ofBits .f32 0x41A40000#32 < x)) = 1#1
    rw [Scalars.lit_count, decide_eq_true h]
    rfl
  rw [hc]
  decide

/-- The count the branch tests is at least each row's. -/
theorem count_le_pay30 (r : Fin 128) : ∑ j : Fin 4096, near (gap x2 x3 r j) ≤ k1_pay30 (View.ld x2 q0) (View.ld x2 q1) (View.ld x3 q2) (View.ld x3 q3) := by
  unfold k1_pay30
  unfold extractAt
  refine le_of_le_of_eq ?_ (shapeCast_apply (s := S1) (t := S1x1x1) _ _ _ (ix1 (0 : Fin 1)) (by rfl)).symm
  refine le_of_le_of_eq ?_ (multiReduction_maximumf_eq_fold (F := Ideal) _ _ _ _ _ _).symm
  refine (Finset.le_fold_max _).mpr (Or.inr ⟨ix3 (0 : Fin 1) r (0 : Fin 1), ?_, ?_⟩)
  · refine Finset.mem_filter.mpr ⟨Finset.mem_univ _, ?_⟩
    funext a; apply Fin.ext; fin_cases a; rfl
  · refine le_of_eq ?_
    refine Eq.trans ?_ (shapeCast_ab_1ab_apply _ _ _ _ _).symm
    refine Eq.trans ?_ (shapeCast_a_a1_apply _ _ _ _).symm
    refine Eq.trans ?_ (Ideal.multiReduction_add_single _ _ _ _ _ _).symm
    refine Finset.sum_congr rfl fun j _ => ?_
    rw [← pay25_apply]
    refine congrArg _ ?_
    funext a; apply Fin.ext; fin_cases a <;> rfl

/-- In a block not crowded every row's count of columns in range is at most 20.5. -/
theorem count_le (h : ¬ crowded x2 x3) (r : Fin 128) : ∑ j : Fin 4096, near (gap x2 x3 r j) ≤ ((20.5 : ℝ) : EReal) := by
  by_contra hlt
  rw [not_le] at hlt
  exact h (above _ (lt_of_lt_of_le hlt (count_le_pay30 x2 x3 r)))

end

end Cert.KernelIdeal.Hand

end
-- ==== Proof.Rounds.lean ====
/- Twenty rounds that each take a row's maximum away, against the first twenty places of the row sorted. -/
module

public import Idealize.ShloMosaic.PureOps.Ideal.Laws
public import Idealize.ShloMosaic.Lib.SortFacts

@[expose] public section

noncomputable section

namespace Cert.Rounds

variable {n : ℕ}

/-- The greatest of a row. -/
def rowMax (w : Fin n → EReal) : EReal := (Finset.univ : Finset (Fin n)).fold max ⊥ w

/-- One round: every entry that reaches the maximum becomes -1. -/
def lower (w : Fin n → EReal) : Fin n → EReal := fun j => if rowMax w ≤ w j then -1 else w j

/-- The row with what is below the twentieth round's maximum set to zero. -/
def kept (p : Fin n → EReal) : Fin n → EReal := fun j => if max (rowMax (lower^[19] p)) 0 ≤ p j then p j else 0

theorem le_rowMax (w : Fin n → EReal) (j : Fin n) : w j ≤ rowMax w :=
  (Finset.le_fold_max _).mpr (Or.inr ⟨j, Finset.mem_univ j, le_rfl⟩)

theorem rowMax_le (w : Fin n → EReal) (b : EReal) (h : ∀ j, w j ≤ b) : rowMax w ≤ b :=
  (Finset.fold_max_le _).mpr ⟨bot_le, fun j _ => h j⟩

theorem rowMax_mem (hn : 0 < n) (w : Fin n → EReal) : ∃ j, w j = rowMax w := by
  haveI : Nonempty (Fin n) := ⟨⟨0, hn⟩⟩
  obtain ⟨j, -, hj⟩ := Finset.exists_max_image (Finset.univ : Finset (Fin n)) w Finset.univ_nonempty
  exact ⟨j, le_antisymm (le_rowMax w j) (rowMax_le w _ fun i => hj i (Finset.mem_univ i))⟩

theorem neg_one_lt_zero' : (-1 : EReal) < 0 := by
  have : ((-1 : ℝ) : EReal) < ((0 : ℝ) : EReal) := EReal.coe_lt_coe_iff.mpr (by norm_num)
  simpa using this

section sorted

variable (p : Fin n → EReal) (σ : Fin n → Fin n) (hσ : Function.Bijective σ) (h0 : ∀ j, 0 ≤ p j)
  (anti : ∀ a b : Fin n, a ≤ b → p (σ b) ≤ p (σ a)) (h20 : 20 < n)

include hσ h0 anti

/-- With the first places strictly decreasing, `r` rounds lower the first `r` places. -/
theorem lower_strict (strict : ∀ a : ℕ, (ha : a < 20) → p (σ ⟨a + 1, by omega⟩) < p (σ ⟨a, by omega⟩)) (r : ℕ) (hr : r ≤ 19) (a : Fin n) :
    (lower^[r] p) (σ a) = if a.val < r then -1 else p (σ a) := by
  induction r generalizing a with
  | zero => simp
  | succ r ih =>
    have ih' := fun b => ih (by omega) b
    have hmax : rowMax (lower^[r] p) = p (σ ⟨r, by omega⟩) := by
      apply le_antisymm
      · refine rowMax_le _ _ fun j => ?_
        obtain ⟨b, rfl⟩ := hσ.2 j
        rw [ih' b]
        split
        · exact (neg_one_lt_zero'.le).trans (h0 _)
        · exact anti _ _ (by rw [Fin.le_def]; simp; omega)
      · have := le_rowMax (lower^[r] p) (σ ⟨r, by omega⟩)
        rw [ih' ⟨r, by omega⟩, if_neg (by simp)] at this
        exact this
    rw [Function.iterate_succ_apply']
    unfold lower
    change (if rowMax (lower^[r] p) ≤ (lower^[r] p) (σ a) then (-1 : EReal) else (lower^[r] p) (σ a)) = _
    rw [hmax, ih' a]
    by_cases h1 : a.val < r
    · rw [if_pos h1, if_pos (show a.val < r + 1 by omega), if_neg]
      exact not_le.mpr (neg_one_lt_zero'.trans_le (h0 _))
    · rw [if_neg h1]
      by_cases h2 : a.val = r
      · have e : a = ⟨r, by omega⟩ := Fin.ext h2
        rw [if_pos (show a.val < r + 1 by omega), if_pos (by rw [e])]
      · rw [if_neg (show ¬ a.val < r + 1 by omega), if_neg]
        refine not_le.mpr (lt_of_le_of_lt (anti ⟨r + 1, by omega⟩ a (by rw [Fin.le_def]; simp; omega)) (strict r (by omega)))

theorem rowMax_strict (strict : ∀ a : ℕ, (ha : a < 20) → p (σ ⟨a + 1, by omega⟩) < p (σ ⟨a, by omega⟩)) :
    rowMax (lower^[19] p) = p (σ ⟨19, by omega⟩) := by
  have ih' := fun b => lower_strict p σ hσ h0 anti h20 strict 19 le_rfl b
  apply le_antisymm
  · refine rowMax_le _ _ fun j => ?_
    obtain ⟨b, rfl⟩ := hσ.2 j
    rw [ih' b]
    split
    · exact (neg_one_lt_zero'.le).trans (h0 _)
    · exact anti _ _ (by rw [Fin.le_def]; simp; omega)
  · have := le_rowMax (lower^[19] p) (σ ⟨19, by omega⟩)
    rw [ih' ⟨19, by omega⟩, if_neg (by simp)] at this
    exact this

/-- With no more than twenty positive entries, every positive entry reaches the twentieth round's maximum. -/
theorem rowMax_le_pos (hz : p (σ ⟨20, h20⟩) = 0) (j : Fin n) (hj : 0 < p j) : rowMax (lower^[19] p) ≤ p j := by
  by_contra hc
  rw [not_le] at hc
  -- a lowered entry stays lowered, and the maxima decrease
  have lowered : ∀ r i, (lower^[r] p) i = -1 ∨ (lower^[r] p) i = p i := by
    intro r
    induction r with
    | zero => intro i; right; rfl
    | succ r ih =>
      intro i
      rw [Function.iterate_succ_apply']
      show (if rowMax (lower^[r] p) ≤ (lower^[r] p) i then (-1 : EReal) else (lower^[r] p) i) = -1 ∨ (if rowMax (lower^[r] p) ≤ (lower^[r] p) i then (-1 : EReal) else (lower^[r] p) i) = p i
      split
      · left; rfl
      · exact ih i
  have ge1 : ∀ r i, -1 ≤ (lower^[r] p) i := by
    intro r i
    rcases lowered r i with h | h <;> rw [h]
    exact (neg_one_lt_zero'.le).trans (h0 _)
  have down : ∀ r i, (lower^[r + 1] p) i ≤ (lower^[r] p) i := by
    intro r i
    rw [Function.iterate_succ_apply']
    show (if rowMax (lower^[r] p) ≤ (lower^[r] p) i then (-1 : EReal) else (lower^[r] p) i) ≤ _
    split
    · exact ge1 r i
    · exact le_rfl
  have down' : ∀ r s i, r ≤ s → (lower^[s] p) i ≤ (lower^[r] p) i := by
    intro r s i h
    induction s, h using Nat.le_induction with
    | base => exact le_rfl
    | succ s _ ih => exact (down s i).trans ih
  have mono : ∀ r s, r ≤ s → rowMax (lower^[s] p) ≤ rowMax (lower^[r] p) := fun r s h =>
    rowMax_le _ _ fun i => (down' r s i h).trans (le_rowMax _ i)
  choose arg harg using fun r => rowMax_mem (by omega : 0 < n) (lower^[r] p)
  have big : ∀ r, r ≤ 19 → p j < rowMax (lower^[r] p) := fun r hr => lt_of_lt_of_le hc (mono r 19 hr)
  have hneg : ∀ r s, r < s → (lower^[s] p) (arg r) = -1 := by
    intro r s h
    have h1 : (lower^[r + 1] p) (arg r) = -1 := by
      rw [Function.iterate_succ_apply']
      show (if rowMax (lower^[r] p) ≤ (lower^[r] p) (arg r) then (-1 : EReal) else _) = -1
      rw [if_pos (harg r).ge]
    exact le_antisymm ((down' (r + 1) s _ h).trans h1.le) (ge1 s _)
  have hdist : ∀ r s, r < s → s ≤ 19 → arg r ≠ arg s := by
    intro r s h hs e
    have h1 := hneg r s h
    rw [e, harg s] at h1
    have := (hj.trans (big s hs))
    rw [h1] at this
    exact absurd this (not_lt.mpr neg_one_lt_zero'.le)
  have hval : ∀ r, r ≤ 19 → p j < p (arg r) := by
    intro r hr
    have h1 := big r hr
    rw [← harg r] at h1
    rcases lowered r (arg r) with h | h
    · rw [h] at h1; exact absurd (hj.trans h1) (not_lt.mpr neg_one_lt_zero'.le)
    · rwa [h] at h1
  -- every positive entry is among the first twenty
  have place : ∀ i, 0 < p i → ∃ a : Fin n, a.val < 20 ∧ σ a = i := by
    intro i hi
    obtain ⟨a, rfl⟩ := hσ.2 i
    refine ⟨a, ?_, rfl⟩
    by_contra h
    have := anti ⟨20, h20⟩ a (by rw [Fin.le_def]; simp; omega)
    rw [hz] at this
    exact absurd hi (not_lt.mpr this)
  let f : Fin 21 → Fin n := fun s => if s.val = 20 then j else arg s.val
  have fpos : ∀ s, 0 < p (f s) := by
    intro s
    show 0 < p (if s.val = 20 then j else arg s.val)
    split
    · exact hj
    · exact hj.trans (hval _ (by omega))
  have finj : Function.Injective f := by
    intro s t e
    change (if s.val = 20 then j else arg s.val) = (if t.val = 20 then j else arg t.val) at e
    have hs := s.isLt
    have ht := t.isLt
    apply Fin.ext
    by_cases h1 : s.val = 20
    · by_cases h2 : t.val = 20
      · omega
      · rw [if_pos h1, if_neg h2] at e
        have := hval t.val (by omega); rw [← e] at this; exact absurd this (lt_irrefl _)
    · by_cases h2 : t.val = 20
      · rw [if_neg h1, if_pos h2] at e
        have := hval s.val (by omega); rw [e] at this; exact absurd this (lt_irrefl _)
      · rw [if_neg h1, if_neg h2] at e
        rcases lt_trichotomy s.val t.val with h | h | h
        · exact absurd e (hdist _ _ h (by omega))
        · exact h
        · exact absurd e.symm (hdist _ _ h (by omega))
  choose g hg1 hg2 using fun s => place (f s) (fpos s)
  obtain ⟨s, t, hne, e⟩ := Fintype.exists_ne_map_eq_of_card_lt (fun s : Fin 21 => (⟨(g s).val, hg1 s⟩ : Fin 20)) (by simp)
  have e' : g s = g t := Fin.ext (by simpa using e)
  exact hne (finj (by rw [← hg2 s, ← hg2 t, e']))

/-- What the rounds keep is what the first twenty places hold. -/
theorem kept_eq (h : (∀ a : ℕ, (ha : a < 20) → p (σ ⟨a + 1, by omega⟩) < p (σ ⟨a, by omega⟩)) ∨ p (σ ⟨20, h20⟩) = 0) (j : Fin n) :
    kept p j = if (∃ a : Fin n, a.val < 20 ∧ σ a = j) then p j else 0 := by
  unfold kept
  rcases h with h | h
  · rw [rowMax_strict p σ hσ h0 anti h20 h, max_eq_left (h0 _)]
    obtain ⟨b, rfl⟩ := hσ.2 j
    by_cases hb : b.val < 20
    · rw [if_pos (anti _ _ (by rw [Fin.le_def]; simp; omega)), if_pos ⟨b, hb, rfl⟩]
    · rw [if_neg, if_neg]
      · rintro ⟨a, ha, e⟩
        have := hσ.1 e
        subst this; exact hb ha
      · exact not_le.mpr (lt_of_le_of_lt (anti ⟨20, h20⟩ b (by rw [Fin.le_def]; simp; omega)) (h 19 (by omega)))
  · by_cases hj : 0 < p j
    · rw [if_pos (max_le (rowMax_le_pos p σ hσ h0 anti h20 h j hj) (h0 j)), if_pos]
      obtain ⟨a, rfl⟩ := hσ.2 j
      refine ⟨a, ?_, rfl⟩
      by_contra hc
      have := anti ⟨20, h20⟩ a (by rw [Fin.le_def]; simp; omega)
      rw [h] at this
      exact absurd hj (not_lt.mpr this)
    · have e : p j = 0 := le_antisymm (not_lt.mp hj) (h0 j)
      rw [e]; simp

/-- With no more than twenty positive entries the first twenty places hold all that is not zero. -/
theorem all_kept (h : p (σ ⟨20, h20⟩) = 0) (j : Fin n) :
    p j = if (∃ a : Fin n, a.val < 20 ∧ σ a = j) then p j else 0 := by
  obtain ⟨a, rfl⟩ := hσ.2 j
  by_cases ha : a.val < 20
  · rw [if_pos ⟨a, ha, rfl⟩]
  · have e : p (σ a) = 0 := le_antisymm ((anti ⟨20, h20⟩ a (by rw [Fin.le_def]; simp; omega)).trans h.le) (h0 _)
    rw [e]; simp

/-- If the twenty-first place is positive, so are twenty-one entries: fewer positive entries leave it zero. -/
theorem place_zero (s : Finset (Fin n)) (hs : ∀ j, 0 < p j → j ∈ s) (hc : s.card ≤ 20) : p (σ ⟨20, h20⟩) = 0 := by
  by_contra hne
  have hpos : 0 < p (σ ⟨20, h20⟩) := lt_of_le_of_ne (h0 _) (Ne.symm hne)
  have hmem : ∀ a : Fin 21, σ ⟨a.val, by omega⟩ ∈ s := fun a =>
    hs _ (lt_of_lt_of_le hpos (anti _ _ (by rw [Fin.le_def]; simp; omega)))
  have hinj : Function.Injective (fun a : Fin 21 => σ ⟨a.val, by omega⟩) := fun a b e => by
    have := hσ.1 e
    exact Fin.ext (by simpa using this)
  have h1 := Finset.card_le_card_of_injOn (s := (Finset.univ : Finset (Fin 21))) (t := s) _ (fun a _ => hmem a) (hinj.injOn)
  simp at h1
  omega

end sorted

end Cert.Rounds

end
-- ==== Proof.TopKernel.lean ====
/- The adjacency body's selection of the top twenty weights of a row, read row by row. -/
module

public import proofs.«01_k».proof.Proof.AdjKernelIdeal
public import proofs.«01_k».proof.Proof.Rounds
public import proofs.«01_k».proof.Proof.Scalars
public import Idealize.ShloMosaic.PureOps.Ideal.Laws
public import Idealize.ShloMosaic.Lib.ValueLayout
public import Idealize.ShloMosaic.Lib.ValueLayoutCasts

@[expose] public section

set_option maxRecDepth 16384

noncomputable section

namespace Cert.KernelIdeal.Hand

open Idealize.ShloMosaic Idealize.ShloMosaic.TcCoe
open Idealize.ShloMosaic.Pipeline Idealize.ShloMosaic.ValueIdx
open Cert.KernelIdeal Cert.KernelIdeal.Gen

/-- The greatest weight of each row, as a column. -/
def peaks (w : FVec Ideal S128x4096 .f32) : FVec Ideal S128x1 .f32 :=
  shapeCast S128x1 (multiReduction .maximumf [1] S128 w 0xFF800000#32 reduces_S128x4096_S128 (.inl rfl) rfl) shapeCasts_S128_S128x1

/-- One round over a block: in each row, every entry that reaches the greatest becomes -1. -/
def round (w : FVec Ideal S128x4096 .f32) : FVec Ideal S128x4096 .f32 :=
  select (cmpf .oge w (broadcastTo S128x4096 (peaks w) broadcasts_S128x1_S128x4096)) (broadcast S128x4096 (Scalar.ofBits .f32 0xBF800000#32)) w

/-- The last step: what is below the row's threshold, or below zero, becomes zero. -/
def cut (v w : FVec Ideal S128x4096 .f32) : FVec Ideal S128x4096 .f32 :=
  select (cmpf .oge v (broadcastTo S128x4096 (maximumf (peaks w) (broadcast S128x1 (Scalar.ofBits .f32 0x00000000#32))) broadcasts_S128x1_S128x4096)) v
    (broadcast S128x4096 (Scalar.ofBits .f32 0x00000000#32))

def flat (v : Vec Ideal S1x128x4096 .f32) : FVec Ideal S128x4096 .f32 := shapeCast S128x4096 v shapeCasts_S1x128x4096_S128x4096

/-- The selection over a slab: nineteen rounds, then the cut. -/
def topAll (v : Vec Ideal S1x128x4096 .f32) : Vec Ideal S1x128x4096 .f32 :=
  shapeCast S1x128x4096 (cut (flat v) (round^[19] (flat v))) shapeCasts_S128x4096_S1x128x4096

theorem nineteen {α : Type} (f : α → α) (w : α) :
    f^[19] w = f (f (f (f (f (f (f (f (f (f (f (f (f (f (f (f (f (f (f w)))))))))))))))))) := rfl

theorem pay7_eq (v : Vec Ideal S1x128x4096 .f32) : k1_pay7 v = round (round (round (round (round (round (flat v)))))) := rfl
theorem pay13_eq (v : Vec Ideal S1x128x4096 .f32) : k1_pay13 v = round (round (round (round (round (round (flat v)))))) := rfl
theorem pay19_eq (v : Vec Ideal S1x128x4096 .f32) : k1_pay19 v = round (round (round (round (round (round (flat v)))))) := rfl

/-- Whether an entry reaches its row's greatest. -/
def reach (w : FVec Ideal S128x4096 .f32) : IVec S128x4096 1 := cmpf .oge w (broadcastTo S128x4096 (peaks w) broadcasts_S128x1_S128x4096)

theorem pay8_eq (v : Vec Ideal S1x128x4096 .f32) : k1_pay8 v = reach (k1_pay7 v) := rfl
theorem pay14_eq (v : Vec Ideal S1x128x4096 .f32) : k1_pay14 v = reach (k1_pay13 v) := rfl
theorem pay20_eq (v : Vec Ideal S1x128x4096 .f32) : k1_pay20 v = reach (k1_pay19 v) := rfl

theorem pay10_eq (w : FVec Ideal S128x4096 .f32) : k1_pay10 w (reach w) (k1_pay9 (F := Ideal)) = round (round (round (round (round (round (round (round w))))))) := rfl
theorem pay16_eq (w : FVec Ideal S128x4096 .f32) : k1_pay16 w (reach w) (k1_pay15 (F := Ideal)) = round (round (round (round (round (round (round (round w))))))) := rfl
theorem pay22_eq (w : FVec Ideal S128x4096 .f32) : k1_pay22 w (reach w) (k1_pay21 (F := Ideal)) = round (round (round (round (round (round (round (round w))))))) := rfl

theorem pay11_eq (w : FVec Ideal S128x4096 .f32) (b : IVec S128x4096 1) (e : FVec Ideal S128x4096 .f32) : k1_pay11 w b e = peaks (k1_pay10 w b e) := rfl
theorem pay17_eq (w : FVec Ideal S128x4096 .f32) (b : IVec S128x4096 1) (e : FVec Ideal S128x4096 .f32) : k1_pay17 w b e = peaks (k1_pay16 w b e) := rfl
theorem pay23_eq (w : FVec Ideal S128x4096 .f32) (b : IVec S128x4096 1) (e : FVec Ideal S128x4096 .f32) : k1_pay23 w b e = peaks (k1_pay22 w b e) := rfl

theorem pay36_eq (v w : FVec Ideal S128x4096 .f32) : k1_pay36 v w (peaks w)
    = shapeCast S1x128x4096 (cut v (round (round (round (round (round w)))))) shapeCasts_S128x4096_S1x128x4096 := rfl
theorem pay2_eq (v w : FVec Ideal S128x4096 .f32) : k1_pay2 v w (peaks w)
    = shapeCast S1x128x4096 (cut v (round (round (round (round (round w)))))) shapeCasts_S128x4096_S1x128x4096 := rfl
theorem pay5_eq (v w : FVec Ideal S128x4096 .f32) : k1_pay5 v w (peaks w)
    = shapeCast S1x128x4096 (cut v (round (round (round (round (round w)))))) shapeCasts_S128x4096_S1x128x4096 := rfl

theorem top0_eq (v : Vec Ideal S1x128x4096 .f32) : top0 v = topAll v := by
  unfold top0 topAll
  rw [pay8_eq, pay11_eq, pay10_eq, pay36_eq, pay7_eq, nineteen]
  rfl
theorem top1_eq (v : Vec Ideal S1x128x4096 .f32) : top1 v = topAll v := by
  unfold top1 topAll
  rw [pay14_eq, pay17_eq, pay16_eq, pay2_eq, pay13_eq, nineteen]
  rfl
theorem top2_eq (v : Vec Ideal S1x128x4096 .f32) : top2 v = topAll v := by
  unfold top2 topAll
  rw [pay20_eq, pay23_eq, pay22_eq, pay5_eq, pay19_eq, nineteen]
  rfl

/-! Row by row. -/

/-- A row of a block. -/
def row (w : FVec Ideal S128x4096 .f32) (r : Fin 128) : Fin 4096 → EReal := fun j => w (ix2 r j)

theorem peaks_apply (w : FVec Ideal S128x4096 .f32) (r : Fin 128) : peaks w (ix2 r (0 : Fin 1)) = Cert.Rounds.rowMax (row w r) := by
  unfold peaks
  refine (shapeCast_a_a1_apply _ _ _ _).trans ?_
  refine (Ideal.multiReduction_maximumf_single _ _ _ _ _ _).trans ?_
  refine Eq.trans (congrArg (fun b => (Finset.univ : Finset (Fin 4096)).fold max b _) Scalars.lit_bottom) ?_
  unfold Cert.Rounds.rowMax
  refine congrArg (fun g => (Finset.univ : Finset (Fin 4096)).fold max ⊥ g) ?_
  funext j
  refine congrArg w ?_
  funext a; fin_cases a <;> rfl

theorem broadcast_column (x : FVec Ideal S128x1 .f32) (r : Fin 128) (j : Fin 4096) :
    broadcastTo S128x4096 x broadcasts_S128x1_S128x4096 (ix2 r j) = x (ix2 r (0 : Fin 1)) := by
  refine broadcastTo_apply x _ _ _ fun a => ?_
  fin_cases a <;> rfl

theorem row_round (w : FVec Ideal S128x4096 .f32) (r : Fin 128) : row (round w) r = Cert.Rounds.lower (row w r) := by
  funext j
  unfold row round
  rw [select_apply, cmpf_apply, broadcast_apply, broadcast_column, peaks_apply]
  refine (Scalars.pick (Cert.Rounds.rowMax (row w r) ≤ w (ix2 r j)) _ _).trans ?_
  unfold Cert.Rounds.lower
  refine if_congr Iff.rfl ?_ rfl
  refine Scalars.lit_minus_one.trans ?_
  simp

theorem row_rounds (k : ℕ) (w : FVec Ideal S128x4096 .f32) (r : Fin 128) : row (round^[k] w) r = Cert.Rounds.lower^[k] (row w r) := by
  induction k generalizing w with
  | zero => rfl
  | succ k ih => rw [Function.iterate_succ_apply, Function.iterate_succ_apply, ih, row_round]

theorem cut_apply (v : FVec Ideal S128x4096 .f32) (r : Fin 128) (j : Fin 4096) : cut v (round^[19] v) (ix2 r j) = Cert.Rounds.kept (row v r) j := by
  unfold cut
  rw [select_apply, cmpf_apply, broadcast_apply, broadcast_column, maximumf_apply, broadcast_apply, peaks_apply, row_rounds]
  refine (Scalars.pick (max (Cert.Rounds.rowMax (Cert.Rounds.lower^[19] (row v r))) (Ideal.ofBits .f32 0x00000000#32) ≤ v (ix2 r j)) _ _).trans ?_
  show (if _ then _ else Ideal.ofBits .f32 0x00000000#32) = _
  rw [Ideal.ofBits_zero_f32]
  rfl

/-- A slab's row after the selection. -/
theorem topAll_apply (v : Vec Ideal S1x128x4096 .f32) (r : Fin 128) (j : Fin 4096) :
    topAll v (ix3 (0 : Fin 1) r j) = Cert.Rounds.kept (fun j => v (ix3 (0 : Fin 1) r j)) j := by
  unfold topAll
  rw [shapeCast_ab_1ab_apply, cut_apply]
  congr 1
  funext j
  unfold row flat
  rw [shapeCast_1ab_ab_apply]

end Cert.KernelIdeal.Hand

end
-- ==== Proof.AdjRead.lean ====
/- What the adjacency body leaves at each entry of its block. -/
module

public import proofs.«01_k».proof.Proof.RawKernel
public import proofs.«01_k».proof.Proof.TopKernel

@[expose] public section

set_option maxRecDepth 16384

noncomputable section

namespace Cert.KernelIdeal.Hand

open Idealize.ShloMosaic Idealize.ShloMosaic.TcCoe
open Idealize.ShloMosaic.Pipeline Idealize.ShloMosaic.ValueIdx
open Cert.KernelIdeal Cert.KernelIdeal.Gen

/-- A slab with the diagonal set: row `r` of the block is node `n + r`. -/
def onDiag (n : ℕ) (p : Vec Ideal S1x128x4096 .f32) (r : Fin 128) (j : Fin 4096) : EReal :=
  if j.val = n + r.val then ((Real.log 2 : ℝ) : EReal) else p (ix3 (0 : Fin 1) r j)

/-! The tile with its diagonal set. -/

theorem eye_apply (a b : Fin 128) : (k1_pay31 (ix2 a b) : BitVec 1) = BitVec.ofBool (decide (a = b)) := by
  show BitVec.ofBool (decide (BitVec.ofNat 32 (0 * 128 + a.val) = BitVec.ofNat 32 (0 * 128 + b.val))) = _
  congr 1
  refine decide_eq_decide.mpr ⟨fun h => ?_, fun h => by rw [h]⟩
  have := congrArg BitVec.toNat h
  simp only [BitVec.toNat_ofNat] at this
  have ha := a.isLt; have hb := b.isLt
  exact Fin.ext (by omega)

theorem diag0_apply (v : Vec Ideal S1x128x128 .f32) (a b : Fin 128) :
    diag0 v (ix3 (0 : Fin 1) a b) = if a = b then ((Real.log 2 : ℝ) : EReal) else v (ix3 (0 : Fin 1) a b) := by
  unfold diag0 k1_pay35
  refine (shapeCast_ab_1ab_apply _ _ _ _ _).trans ?_
  rw [select_apply, eye_apply, Scalars.pick, broadcast_apply, shapeCast_1ab_ab_apply]
  rfl
theorem diag1_apply (v : Vec Ideal S1x128x128 .f32) (a b : Fin 128) :
    diag1 v (ix3 (0 : Fin 1) a b) = if a = b then ((Real.log 2 : ℝ) : EReal) else v (ix3 (0 : Fin 1) a b) := by
  unfold diag1 k1_pay1 k1_pay38
  refine (shapeCast_ab_1ab_apply _ _ _ _ _).trans ?_
  rw [select_apply, eye_apply, Scalars.pick, broadcast_apply, shapeCast_1ab_ab_apply]
  rfl
theorem diag2_apply (v : Vec Ideal S1x128x128 .f32) (a b : Fin 128) :
    diag2 v (ix3 (0 : Fin 1) a b) = if a = b then ((Real.log 2 : ℝ) : EReal) else v (ix3 (0 : Fin 1) a b) := by
  unfold diag2 k1_pay4
  refine (shapeCast_ab_1ab_apply _ _ _ _ _).trans ?_
  rw [select_apply, eye_apply, Scalars.pick, broadcast_apply, shapeCast_1ab_ab_apply]
  rfl

/-! Stores read back. -/

theorem canon_append_of_not_mem (L L' : List (View.Piece (Elt Ideal) S3x128x4096 .f32)) (y : S3x128x4096.Idx) (h : ∀ p ∈ L, y ∉ p.1.set) :
    View.canon (L ++ L') y = View.canon L' y := by
  induction L with
  | nil => rfl
  | cons p L ih =>
    rw [List.cons_append, View.canon_cons_of_not_mem p _ (h p List.mem_cons_self)]
    exact ih fun q hq => h q (List.mem_cons_of_mem _ hq)

/-- A whole slab, and a diagonal tile of it. -/
abbrev Q (o : Fin 3 → ℕ) (hi : ∀ a, o a + S1x128x4096.size a ≤ S3x128x4096.size a) : Rect S3x128x4096 := Rect.unit (s := S3x128x4096) o S1x128x4096.size hi
abbrev D (o : Fin 3 → ℕ) (hi : ∀ a, o a + S1x128x128.size a ≤ S3x128x4096.size a) : Rect S3x128x4096 := Rect.unit (s := S3x128x4096) o S1x128x128.size hi

section

variable (k : Fin 3) (n : ℕ) (o o' : Fin 3 → ℕ) (hi : ∀ a, o a + S1x128x4096.size a ≤ S3x128x4096.size a)
  (hi' : ∀ a, o' a + S1x128x128.size a ≤ S3x128x4096.size a) (ho : o = ![k.val, 0, 0]) (ho' : o' = ![k.val, 0, n])

include ho in
theorem at_slab (r : Fin 128) (j : Fin 4096) : (Q o hi).emb (ix3 (0 : Fin 1) r j) = ix3 k r j := by
  subst ho
  funext a; apply Fin.ext; fin_cases a <;> simp [Rect.unit, Rect.emb]

include ho' in
theorem at_tile (r b : Fin 128) (j : Fin 4096) (h : j.val = n + b.val) : (D o' hi').emb (ix3 (0 : Fin 1) r b) = ix3 k r j := by
  subst ho'
  funext a; apply Fin.ext; fin_cases a <;> simp [Rect.unit, Rect.emb, h]

include ho' in
theorem mem_tile (r : Fin 128) (j : Fin 4096) : ix3 k r j ∈ (D o' hi').set ↔ n ≤ j.val ∧ j.val < n + 128 := by
  subst ho'
  rw [Rect.mem_set_unit]
  constructor
  · intro h
    exact h 2
  · intro h a
    have hr := r.isLt
    fin_cases a
    · exact ⟨le_rfl, Nat.lt_succ_self _⟩
    · exact ⟨Nat.zero_le _, by simpa using hr⟩
    · exact h

include ho ho' in
theorem first_apply (p : Vec Ideal S1x128x4096 .f32) (g : Vec Ideal S1x128x128 .f32 → Vec Ideal S1x128x128 .f32)
    (hg : ∀ v (a b : Fin 128), g v (ix3 (0 : Fin 1) a b) = if a = b then ((Real.log 2 : ℝ) : EReal) else v (ix3 (0 : Fin 1) a b))
    (L : List (View.Piece (Elt Ideal) S3x128x4096 .f32)) (r : Fin 128) (j : Fin 4096) :
    View.canon (first (F := Ideal) (Q o hi) (D o' hi') p g ++ L) (ix3 k r j) = onDiag n p r j := by
  have plain : ∀ L', View.canon ((⟨Q o hi, p⟩ : View.Piece (Elt Ideal) S3x128x4096 .f32) :: L') (ix3 k r j) = p (ix3 (0 : Fin 1) r j) := by
    intro L'
    rw [← at_slab k o hi ho r j]
    exact View.canon_cons_emb (Q o hi) p L' _
  unfold onDiag
  by_cases hm : n ≤ j.val ∧ j.val < n + 128
  · obtain ⟨b, hb⟩ : ∃ b : Fin 128, j.val = n + b.val := ⟨⟨j.val - n, by omega⟩, by show j.val = n + (j.val - n); omega⟩
    conv_lhs => rw [← at_tile k n o' hi' ho' r b j hb]
    refine (View.canon_cons_emb (D o' hi') _ _ _).trans ?_
    rw [hg]
    by_cases hrb : r = b
    · rw [if_pos hrb, if_pos (by rw [hb, hrb])]
    · rw [if_neg hrb, if_neg (by rw [hb]; intro h; exact hrb (Fin.ext (by omega)))]
      show View.canon _ ((D o' hi').emb (ix3 (0 : Fin 1) r b)) = _
      rw [at_tile k n o' hi' ho' r b j hb]
      exact plain []
  · rw [if_neg (by intro h; exact hm ⟨by omega, by have := r.isLt; omega⟩)]
    refine (View.canon_cons_of_not_mem _ _ ?_).trans (plain L)
    rw [mem_tile k n o' hi' ho']
    exact hm

include ho ho' in
theorem slab_apply (B : Prop) [Decidable B] (p : Vec Ideal S1x128x4096 .f32) (g : Vec Ideal S1x128x128 .f32 → Vec Ideal S1x128x128 .f32)
    (hg : ∀ v (a b : Fin 128), g v (ix3 (0 : Fin 1) a b) = if a = b then ((Real.log 2 : ℝ) : EReal) else v (ix3 (0 : Fin 1) a b))
    (L : List (View.Piece (Elt Ideal) S3x128x4096 .f32)) (r : Fin 128) (j : Fin 4096) :
    View.canon (slab (F := Ideal) B (Q o hi) (D o' hi') p g topAll ++ L) (ix3 k r j)
      = if B then Cert.Rounds.kept (onDiag n p r) j else onDiag n p r j := by
  unfold slab
  by_cases hB : B
  · rw [if_pos hB, if_pos hB]
    conv_lhs => rw [← at_slab k o hi ho r j]
    refine (View.canon_cons_emb (Q o hi) _ _ _).trans ?_
    refine (topAll_apply _ r j).trans ?_
    refine congrFun (congrArg Cert.Rounds.kept ?_) j
    funext j'
    show View.canon _ ((Q o hi).emb (ix3 (0 : Fin 1) r j')) = _
    rw [at_slab k o hi ho r j']
    have := first_apply k n o o' hi hi' ho ho' p g hg [] r j'
    rwa [List.append_nil] at this
  · rw [if_neg hB, if_neg hB]
    exact first_apply k n o o' hi hi' ho ho' p g hg L r j

end

theorem not_in_slab (k : Fin 3) (r : Fin 128) (j : Fin 4096) (l : ℕ) (hl : l ≠ k.val) (hi) : ix3 k r j ∉ (Q ![l, 0, 0] hi).set := by
  rw [Rect.mem_set_unit]
  intro h
  have h0 := h 0
  have h1 : l ≤ k.val ∧ k.val < l + 1 := h0
  omega

theorem slab_off (B : Prop) [Decidable B] (k : Fin 3) (r : Fin 128) (j : Fin 4096) (l : ℕ) (hl : l ≠ k.val) (hi) (d : Rect S3x128x4096)
    (hd : ∀ x : d.shape.Idx, d.emb x ∈ (Q ![l, 0, 0] hi).set) (p) (g) (h) :
    ∀ q ∈ slab (F := Ideal) B (Q ![l, 0, 0] hi) d p g h, ix3 k r j ∉ q.1.set := by
  have hq := not_in_slab k r j l hl hi
  have hd' : ix3 k r j ∉ d.set := by
    intro hm
    obtain ⟨x, hx⟩ := d.exists_idx_of_mem hm
    exact hq (hx ▸ hd x)
  intro q hm
  unfold slab at hm
  split at hm
  · simp only [List.mem_cons, List.not_mem_nil, or_false] at hm
    rcases hm with rfl | rfl | rfl
    · exact hq
    · exact hd'
    · exact hq
  · simp only [List.mem_cons, List.not_mem_nil, or_false] at hm
    rcases hm with rfl | rfl
    · exact hd'
    · exact hq

section

variable (i : grid1.Coords) (x0 : Vec Ideal S3x128x64 .bf16) (x1 : Vec Ideal S64x4096 .bf16) (x2 : Vec Ideal S128x2 .f32) (x3 : Vec Ideal S2x4096 .f32)

/-- The block's weights before the selection, by the kernel's number. -/
def raw (k : Fin 3) : Vec Ideal S1x128x4096 .f32 := match k with
  | ⟨0, _⟩ => raw0 x0 x1 x2 x3
  | ⟨1, _⟩ => raw1 x0 x1 x2 x3
  | ⟨2, _⟩ => raw2 x0 x1 x2 x3

/-- What the body leaves at an entry: the weight with the diagonal set, selected in a crowded block. -/
theorem adj_apply (k : Fin 3) (r : Fin 128) (j : Fin 4096) : adj i x0 x1 x2 x3 (ix3 k r j)
    = if crowded x2 x3 then Cert.Rounds.kept (onDiag (128 * (i 0).val) (raw x0 x1 x2 x3 k) r) j else onDiag (128 * (i 0).val) (raw x0 x1 x2 x3 k) r j := by
  have t0 : top0 = topAll := funext top0_eq
  have t1 : top1 = topAll := funext top1_eq
  have t2 : top2 = topAll := funext top2_eq
  unfold adj
  rw [t0, t1, t2]
  fin_cases k
  · rw [canon_append_of_not_mem _ _ _ (slab_off _ _ r j 2 (by decide) _ _ (tile2_sub i) _ _ _),
      canon_append_of_not_mem _ _ _ (slab_off _ _ r j 1 (by decide) _ _ (tile1_sub i) _ _ _)]
    have := slab_apply 0 (128 * (i 0).val) _ _ inb_S3x128x4096_S1x128x4096_0_0_0 (k1_off1_inb i) rfl (k1_off1_eq i) (crowded x2 x3) (raw0 x0 x1 x2 x3) diag0 diag0_apply [] r j
    rw [List.append_nil] at this
    exact this
  · rw [canon_append_of_not_mem _ _ _ (slab_off _ _ r j 2 (by decide) _ _ (tile2_sub i) _ _ _)]
    exact slab_apply 1 (128 * (i 0).val) _ _ inb_S3x128x4096_S1x128x4096_1_0_0 (k1_off2_inb i) rfl (k1_off2_eq i) (crowded x2 x3) (raw1 x0 x1 x2 x3) diag1 diag1_apply _ r j
  · exact slab_apply 2 (128 * (i 0).val) _ _ inb_S3x128x4096_S1x128x4096_2_0_0 (k1_off3_inb i) rfl (k1_off3_eq i) (crowded x2 x3) (raw2 x0 x1 x2 x3) diag2 diag2_apply _ r j

end

end Cert.KernelIdeal.Hand

end
-- ==== Proof.Region1.lean ====
/- What the adjacency call leaves in its result array, block by block. -/
module

public import proofs.«01_k».proof.Proof.HostRead
public import proofs.«01_k».proof.Proof.AdjRead
public import Idealize.ShloMosaic.Lib.Pipeline.ValueKit.Geometry

@[expose] public section

set_option maxRecDepth 16384

noncomputable section

namespace Cert.KernelIdeal.Hand

open Idealize.ShloMosaic Idealize.ShloMosaic.TcCoe
open Idealize.SL.Sem
open Idealize.ShloMosaic.Pipeline Idealize.ShloMosaic.ValueIdx
open Cert.KernelIdeal Cert.KernelIdeal.Gen

variable (V : (c : Dev nD) → (b : Ref sig .tc) → Buf (Elt Ideal) ((c : Thread nD τ).loc b))

/-- Every window's block index at each point. -/
theorem places1 : ∀ t : Fin cfg1.N, win1_0.index t = ![0, (grid1.coords t 0).val, 0] ∧ win1_1.index t = ![0, 0]
    ∧ win1_2.index t = ![(grid1.coords t 0).val, 0] ∧ win1_3.index t = ![0, 0] ∧ win1_4.index t = ![0, (grid1.coords t 0).val, 0] :=
  (by decide +kernel : ∀ t : Fin grid1.N, _)
theorem point_lt : ∀ t : Fin cfg1.N, (grid1.coords t 0).val = t.val ∧ t.val < 32 :=
  (by decide +kernel : ∀ t : Fin grid1.N, _)

/-- Row `r` of block `n`. -/
def rowAt (n : ℕ) (hn : n < 32) (r : Fin 128) : Fin 4096 := ⟨128 * n + r.val, by have := r.isLt; omega⟩

theorem rowAt_eq (i : Fin 4096) : rowAt (i.val / 128) (by have := i.isLt; omega) ⟨i.val % 128, Nat.mod_lt _ (by decide)⟩ = i :=
  Fin.ext (Nat.div_add_mod i.val 128)

theorem forms_apply (c : Dev nD) (t : Fin cfg1.N) (k : Fin 3) (r : Fin 128) (e : Fin 64) :
    (blk1 V c 0 t : Vec Ideal S3x128x64 .bf16) (ix3 k r e)
      = (V c main_call0_v22 : Vec Ideal S3x4096x64 .bf16) (ix3 k (rowAt t.val (point_lt t).2 r) e) := by
  obtain ⟨h0, h1, h2, h3, h4⟩ := places1 t
  have hp := (point_lt t).1
  blk_simp [blk1]
  congr 1
  blk_ext [h0]
  show (grid1.coords t 0).val * 128 + r.val = 128 * t.val + r.val
  omega
theorem feats_apply (c : Dev nD) (t : Fin cfg1.N) (e : Fin 64) (j : Fin 4096) :
    (blk1 V c 1 t : Vec Ideal S64x4096 .bf16) (ix2 e j) = (V c main_call0_v24 : Vec Ideal S64x4096 .bf16) (ix2 e j) := by
  obtain ⟨h0, h1, h2, h3, h4⟩ := places1 t
  blk_simp [blk1]
  congr 1
  blk_ext [h1]
theorem rows_apply (c : Dev nD) (t : Fin cfg1.N) (r : Fin 128) (d : Fin 2) :
    (blk1 V c 2 t : Vec Ideal S128x2 .f32) (ix2 r d)
      = (V c main_arg1 : Vec Ideal S4096x2 .f32) (ix2 (rowAt t.val (point_lt t).2 r) d) := by
  obtain ⟨h0, h1, h2, h3, h4⟩ := places1 t
  have hp := (point_lt t).1
  blk_simp [blk1]
  congr 1
  blk_ext [h2]
  show (grid1.coords t 0).val * 128 + r.val = 128 * t.val + r.val
  omega
theorem cols_apply (c : Dev nD) (t : Fin cfg1.N) (d : Fin 2) (j : Fin 4096) :
    (blk1 V c 3 t : Vec Ideal S2x4096 .f32) (ix2 d j) = (V c main_call0_v25 : Vec Ideal S2x4096 .f32) (ix2 d j) := by
  obtain ⟨h0, h1, h2, h3, h4⟩ := places1 t
  blk_simp [blk1]
  congr 1
  blk_ext [h3]

/-- The point whose block holds a row. -/
def pointOf (i : Fin 4096) : Fin cfg1.N := ⟨i.val / 128, by have h := i.isLt; show i.val / 128 < 32; omega⟩
/-- Blocks put together. -/
def glue (f : Fin cfg1.N → Vec Ideal S3x128x4096 .f32) : Vec Ideal S3x4096x4096 .f32 := fun i =>
  f (pointOf ⟨(i 1).val, (i 1).isLt⟩)
    (ix3 ⟨(i 0).val, (i 0).isLt⟩ ⟨(i 1).val % 128, Nat.mod_lt _ (by decide)⟩ ⟨(i 2).val, (i 2).isLt⟩)

theorem glue_of (f : Fin cfg1.N → Vec Ideal S3x128x4096 .f32) (t : Fin cfg1.N) (y : S3x128x4096.Idx) (i : S3x4096x4096.Idx)
    (e0 : (i 0).val = (y 0).val) (e1 : (i 1).val = 128 * t.val + (y 1).val) (e2 : (i 2).val = (y 2).val) : f t y = glue f i := by
  have hy : (y 1).val < 128 := (y 1).isLt
  have et : pointOf ⟨(i 1).val, (i 1).isLt⟩ = t := by
    apply Fin.ext
    show (i 1).val / 128 = t.val
    omega
  unfold glue
  rw [et]
  refine congrArg (f t) (funext fun a => Fin.ext ?_)
  match a with
  | ⟨0, _⟩ => exact e0.symm
  | ⟨1, _⟩ =>
    show (y 1).val = (i 1).val % 128
    omega
  | ⟨2, _⟩ => exact e2.symm

/-- What the body leaves at point `t`. -/
def adjAt (c : Dev nD) (t : Fin cfg1.N) : Vec Ideal S3x128x4096 .f32 :=
  adj (grid1.coords t) (blk1 V c 0 t) (blk1 V c 1 t) (blk1 V c 2 t) (blk1 V c 3 t)
theorem left_adjAt (c : Dev nD) (t : Fin cfg1.N) : (dat1 V c).after 4 t = adjAt V c t := left1_4 V c t

theorem covers1 : (cfg1.win 4).Covers := by decide +kernel
theorem place4 (t : Fin cfg1.N) (y : ((cfg1.win 4).xblock (cfg1.grid.coords t)).Idx) :
    ((((cfg1.win 4).blk t).view.emb y 0 : Fin _) : ℕ) = (y 0).val
    ∧ ((((cfg1.win 4).blk t).view.emb y 1 : Fin _) : ℕ) = 128 * t.val + (y 1).val
    ∧ ((((cfg1.win 4).blk t).view.emb y 2 : Fin _) : ℕ) = (y 2).val := by
  obtain ⟨h0, h1, h2, h3, h4⟩ := places1 t
  have hp := point_lt t
  refine ⟨?_, ?_, ?_⟩
  · blk_simp [h4]
  · blk_simp [h4]
    show (grid1.coords t 0).val * 128 + _ = _
    omega
  · blk_simp [h4]

theorem region1 (c : Dev nD) : (dat1 V c).arrAt 4 cfg1.N = glue (adjAt V c) := by
  refine (dat1 V c).arrAt_eq_of_covers 4 _ covers1 fun t hf y => ?_
  rw [left_adjAt]
  refine (eq_of_heq (cast_heq _ _)).trans ?_
  exact glue_of (adjAt V c) t _ _ (place4 t y).1 (place4 t y).2.1 (place4 t y).2.2

/-- The result array at row `r` of block `n`. -/
theorem glue_apply (f : Fin cfg1.N → Vec Ideal S3x128x4096 .f32) (t : Fin cfg1.N) (k : Fin 3) (r : Fin 128) (j : Fin 4096) :
    glue f (ix3 k (rowAt t.val (point_lt t).2 r) j) = f t (ix3 k r j) :=
  (glue_of f t (ix3 k r j) _ rfl rfl rfl).symm

end Cert.KernelIdeal.Hand

end
-- ==== Proof.Result.lean ====
/- The kernel's adjacency is the reference's. -/
module

public import proofs.«01_k».proof.Proof.Chosen
public import proofs.«01_k».proof.Proof.Asked
public import proofs.«01_k».proof.Proof.AdjRead
public import proofs.«01_k».proof.Proof.Region1
public import Idealize.ShloMosaic.Lib.SortFacts
public import Idealize.ShloMosaic.Lib.Routing.OpsSet
public import Idealize.ShloMosaic.Lib.Routing.OpsPair

@[expose] public section

set_option maxRecDepth 16384

noncomputable section

namespace Cert.KernelIdeal.Hand

open Idealize.ShloMosaic hiding ix1 ix2 ix3 addf_apply subf_apply mulf_apply maximumf_apply
open Idealize.ShloMosaic.TcCoe
open Idealize.SL.Sem
open Idealize.ShloMosaic.Pipeline Idealize.ShloMosaic.ValueIdx
open Cert.KernelIdeal Cert.KernelIdeal.Gen
open Cert.ReferenceIdeal.Read

open Cert.Scalars

variable (m : (ℓ : Loc nD τ sig) → Buf (Elt Ideal) ℓ) (c : Dev nD)

/-! What the second launch reads. -/

theorem seen_forms (k : Fin 3) (r : Fin 4096) (e : Fin 64) : (W3 m c main_call0_v22 : Vec Ideal S3x4096x64 .bf16) (ix3 k r e)
    = Ideal.ofBits .f32 0x3E800000#32 * through m c k r e := by
  refine (congrFun (W3_forms m c) (ix3 k r e)).trans ?_
  show (W2 m c main_call0_v19_2 : Vec Ideal S3x4096x64 .f32) (ix3 k r e) = _
  rw [mid_forms, formsAt_apply]
  rfl
theorem seen_feats (e : Fin 64) (j : Fin 4096) : (W3 m c main_call0_v24 : Vec Ideal S64x4096 .bf16) (ix2 e j) = feat m c (ix2 j e) := by
  refine (congrFun (W3_feats m c) (ix2 e j)).trans ?_
  refine (transpose_ix2_apply (W2 m c main_v0_0 : FVec Ideal S4096x64 .f32) transposes_S4096x64_S64x4096_1_0 e j).trans ?_
  rw [mid_feat]
theorem seen_rows : (W3 m c main_arg1 : Vec Ideal S4096x2 .f32) = place m c := W3_args m c main_arg1 (by decide)
theorem seen_cols (d : Fin 2) (j : Fin 4096) : (W3 m c main_call0_v25 : Vec Ideal S2x4096 .f32) (ix2 d j) = place m c (ix2 j d) := by
  refine (congrFun (W3_places m c) (ix2 d j)).trans ?_
  exact transpose_ix2_apply (arg m c main_arg1 : FVec Ideal S4096x2 .f32) transposes_S4096x2_S2x4096_1_0 d j

section

variable (t : Fin cfg1.N)

/-- The node of row `r` of a point's block. -/
abbrev node (r : Fin 128) : Fin 4096 := rowAt t.val (point_lt t).2 r

theorem gap_eq (r : Fin 128) (j : Fin 4096) : gap (blk1 (V3 m) c 2 t) (blk1 (V3 m) c 3 t) r j = apart m c (node t r) j := by
  have e1 : ∀ d : Fin 2, (blk1 (V3 m) c 2 t : Vec Ideal S128x2 .f32) (ix2 r d) = place m c (ix2 (node t r) d) := fun d =>
    (rows_apply (V3 m) c t r d).trans (congrFun (seen_rows m c) _)
  have e2 : ∀ d : Fin 2, (blk1 (V3 m) c 3 t : Vec Ideal S2x4096 .f32) (ix2 d j) = place m c (ix2 j d) := fun d =>
    (cols_apply (V3 m) c t d j).trans (seen_cols m c d j)
  unfold gap apart
  rw [e1, e1, e2, e2]

theorem sim_eq (k : Fin 3) (r : Fin 128) (j : Fin 4096) : sim (blk1 (V3 m) c 0 t) (blk1 (V3 m) c 1 t) k r j
    = Ideal.div (∑ e : Fin 64, through m c k (node t r) e * feat m c (ix2 j e)) (Ideal.ofBits .f32 0x40800000#32) := by
  unfold sim
  rw [← quarter_sim]
  refine Finset.sum_congr rfl fun e _ => ?_
  rw [forms_apply, feats_apply]
  exact congrArg₂ (fun a b : EReal => a * b) (seen_forms m c k (node t r) e) (seen_feats m c e j)

theorem soft_eq (k : Fin 3) (r : Fin 128) (j : Fin 4096) (u : ℝ) (hu : alike m c k (node t r) j = (u : EReal)) :
    soft (sim (blk1 (V3 m) c 0 t) (blk1 (V3 m) c 1 t) k r j) = ((Real.log (1 + Real.exp u) : ℝ) : EReal) := by
  unfold soft
  rw [sim_eq, show Ideal.tanh (Ideal.div (∑ e : Fin 64, through m c k (node t r) e * feat m c (ix2 j e)) (Ideal.ofBits .f32 0x40800000#32)) = (u : EReal) from hu]
  exact kernel_soft u

theorem ebase_eq (d : ℝ) (hd : 0 ≤ d) : ebase (d : EReal) = ((base d : ℝ) : EReal) := by
  unfold ebase near
  rw [kernel_mask]
  exact kernel_base d hd

theorem raw_eq (k : Fin 3) (r : Fin 128) (j : Fin 4096) (d u : ℝ) (hd : 0 ≤ d) (hg : apart m c (node t r) j = (d : EReal))
    (hu : alike m c k (node t r) j = (u : EReal)) :
    raw (blk1 (V3 m) c 0 t) (blk1 (V3 m) c 1 t) (blk1 (V3 m) c 2 t) (blk1 (V3 m) c 3 t) k (ix3 (0 : Fin 1) r j) = ((entry (len k) d u : ℝ) : EReal) := by
  unfold entry
  match k with
  | ⟨0, _⟩ =>
    refine (raw0_apply _ _ _ _ r j).trans ?_
    rw [gap_eq, hg, ebase_eq d hd, show (0 : Fin 3) = ⟨0, by decide⟩ from rfl, soft_eq m c t _ r j u hu, ← EReal.coe_mul, ← EReal.coe_mul, base_two]
    rfl
  | ⟨1, _⟩ =>
    refine (raw1_apply _ _ _ _ r j).trans ?_
    rw [gap_eq, hg, ebase_eq d hd, show (1 : Fin 3) = ⟨1, by decide⟩ from rfl, soft_eq m c t _ r j u hu]
    simp only [← EReal.coe_mul]
    rw [base_six]
    rfl
  | ⟨2, _⟩ =>
    refine (raw2_apply _ _ _ _ r j).trans ?_
    rw [gap_eq, hg, ebase_eq d hd, show (2 : Fin 3) = ⟨2, by decide⟩ from rfl, soft_eq m c t _ r j u hu]
    simp only [← EReal.coe_mul]
    rw [base_three]
    rfl

end

/-! Real places. -/

variable (hp : ∀ i, ∃ q : ℝ, place m c i = (q : EReal))

include hp in
theorem apart_real (r j : Fin 4096) : ∃ d : ℝ, 0 ≤ d ∧ apart m c r j = (d : EReal) ∧ (r = j → d = 0) := by
  obtain ⟨a, ha⟩ := hp (ix2 r (0 : Fin 2))
  obtain ⟨b, hb⟩ := hp (ix2 j (0 : Fin 2))
  obtain ⟨a', ha'⟩ := hp (ix2 r (1 : Fin 2))
  obtain ⟨b', hb'⟩ := hp (ix2 j (1 : Fin 2))
  refine ⟨(a - b) * (a - b) + (a' - b') * (a' - b'), add_nonneg (mul_self_nonneg _) (mul_self_nonneg _), ?_, ?_⟩
  · unfold apart
    rw [ha, hb, ha', hb']
    push_cast
    rfl
  · intro e
    subst e
    have e1 : a = b := EReal.coe_injective (ha.symm.trans hb)
    have e2 : a' = b' := EReal.coe_injective (ha'.symm.trans hb')
    rw [e1, e2]; ring

include hp in
/-- An entry of a prior is real. -/
theorem prior_real (k : Fin 3) (r j : Fin 4096) : ∃ d u : ℝ, 0 ≤ d ∧ apart m c r j = (d : EReal) ∧ (r = j → d = 0) ∧ alike m c k r j = (u : EReal)
    ∧ prior m c k (ix2 r j) = ((entry (len k) d (if r = j then 0 else u) : ℝ) : EReal) := by
  obtain ⟨d, hd, hg, h0⟩ := apart_real m c hp r j
  obtain ⟨u, hu⟩ : ∃ u : ℝ, alike m c k r j = (u : EReal) := tanh_real _
  exact ⟨d, u, hd, hg, h0, hu, by rw [prior_apply, hg, hu, refEntry_real (len k) d u hd (len_pos k) (lenW k) (lenW_eq k)]⟩

include hp in
theorem prior_nonneg (k : Fin 3) (r j : Fin 4096) : 0 ≤ prior m c k (ix2 r j) := by
  obtain ⟨d, u, _, _, _, _, e⟩ := prior_real m c hp k r j
  rw [e]
  exact EReal.coe_nonneg.2 (entry_nonneg _ _ _)

include hp in
/-- A row of the kernel's weights is the prior's row. -/
theorem row_eq (t : Fin cfg1.N) (k : Fin 3) (r : Fin 128) (j : Fin 4096) :
    onDiag (128 * (grid1.coords t 0).val) (raw (blk1 (V3 m) c 0 t) (blk1 (V3 m) c 1 t) (blk1 (V3 m) c 2 t) (blk1 (V3 m) c 3 t) k) r j
      = prior m c k (ix2 (node t r) j) := by
  obtain ⟨d, u, hd, hg, h0, hu, e⟩ := prior_real m c hp k (node t r) j
  have hn : (node t r).val = 128 * (grid1.coords t 0).val + r.val := by rw [(point_lt t).1]; rfl
  rw [e]
  unfold onDiag
  by_cases h : node t r = j
  · rw [if_pos (by rw [← h, hn]), if_pos h, h0 h, entry_diag]
  · rw [if_neg (fun f => h (Fin.ext (hn.trans f.symm))), if_neg h]
    exact raw_eq m c t k r j d u hd hg hu

/-- The nodes within range. -/
def within (r : Fin 4096) : Finset (Fin 4096) := Finset.univ.filter fun j => near (apart m c r j) = 1

include hp in
theorem near_real (r j : Fin 4096) : near (apart m c r j) = 0 ∨ near (apart m c r j) = 1 := by
  obtain ⟨d, _, hg, _⟩ := apart_real m c hp r j
  unfold near
  rw [hg, kernel_mask]
  unfold inRange
  split
  · exact Or.inr rfl
  · exact Or.inl rfl

theorem sum_coe (s : Finset (Fin 4096)) (f : Fin 4096 → ℕ) : ∑ j ∈ s, (((f j : ℕ) : ℝ) : EReal) = (((∑ j ∈ s, f j : ℕ) : ℝ) : EReal) := by
  induction s using Finset.induction_on with
  | empty => simp
  | insert a s h ih => rw [Finset.sum_insert h, Finset.sum_insert h, ih, ← EReal.coe_add, ← Nat.cast_add]

include hp in
theorem within_card (r : Fin 4096) (h : ∑ j : Fin 4096, near (apart m c r j) ≤ ((20.5 : ℝ) : EReal)) : (within m c r).card ≤ 20 := by
  have e : ∑ j : Fin 4096, near (apart m c r j) = (((within m c r).card : ℝ) : EReal) := by
    have : ∀ j, near (apart m c r j) = (((if near (apart m c r j) = 1 then 1 else 0 : ℕ) : ℝ) : EReal) := by
      intro j
      rcases near_real m c hp r j with h | h
      · rw [h]; simp
      · rw [h]; simp
    rw [Finset.sum_congr rfl fun j _ => this j, within, Finset.card_filter]
    exact sum_coe _ _
  rw [e, EReal.coe_le_coe_iff] at h
  by_contra hn
  have : (21 : ℝ) ≤ ((within m c r).card : ℝ) := by exact_mod_cast (by omega : 21 ≤ (within m c r).card)
  linarith

include hp in
theorem mem_within (k : Fin 3) (r j : Fin 4096) (h : 0 < prior m c k (ix2 r j)) : j ∈ within m c r := by
  obtain ⟨d, u, hd, hg, h0, hu, e⟩ := prior_real m c hp k r j
  rw [e] at h
  have := entry_pos _ _ _ (EReal.coe_pos.1 h)
  refine Finset.mem_filter.2 ⟨Finset.mem_univ _, ?_⟩
  unfold near
  rw [hg, kernel_mask, this]
  rfl

/-- The rounds, or the row itself when few entries are positive, keep the first twenty places. -/
theorem selected (C : Prop) [Decidable C] (p : Fin 4096 → EReal) (σ : Fin 4096 → Fin 4096) (hσ : Function.Bijective σ) (h0 : ∀ j, 0 ≤ p j)
    (anti : ∀ a b : Fin 4096, a ≤ b → p (σ b) ≤ p (σ a))
    (ho : (∀ a : ℕ, (ha : a < 20) → p (σ ⟨a + 1, by omega⟩) < p (σ ⟨a, by omega⟩)) ∨ p (σ ⟨20, by omega⟩) = 0)
    (hs : ¬ C → ∃ s : Finset (Fin 4096), (∀ j, 0 < p j → j ∈ s) ∧ s.card ≤ 20) (j : Fin 4096) :
    (if C then Cert.Rounds.kept p j else p j) = if (∃ a : Fin 4096, a.val < 20 ∧ σ a = j) then p j else 0 := by
  split
  · refine (Cert.Rounds.kept_eq p σ hσ h0 anti (by omega) ho j).trans ?_
    by_cases hx : ∃ a : Fin 4096, a.val < 20 ∧ σ a = j
    · rw [if_pos hx, if_pos hx]
    · rw [if_neg hx, if_neg hx]
  · rename_i hc
    obtain ⟨s, h1, h2⟩ := hs hc
    refine (Cert.Rounds.all_kept p σ hσ h0 anti (by omega) (Cert.Rounds.place_zero p σ hσ h0 anti (by omega) s h1 h2) j).trans ?_
    by_cases hx : ∃ a : Fin 4096, a.val < 20 ∧ σ a = j
    · rw [if_pos hx, if_pos hx]
    · rw [if_neg hx, if_neg hx]

include hp in
/-- What a point leaves is what the reference chose. -/
theorem point_eq (t : Fin cfg1.N) (k : Fin 3) (r : Fin 128) (j : Fin 4096) (ho : orderly (prior m c k) = fun _ => 1#1) :
    adjAt (V3 m) c t (ix3 k r j) = chosen m c k (node t r) j := by
  unfold adjAt
  rw [adj_apply, show onDiag (128 * (grid1.coords t 0).val) (raw (blk1 (V3 m) c 0 t) (blk1 (V3 m) c 1 t) (blk1 (V3 m) c 2 t) (blk1 (V3 m) c 3 t) k) r
    = fun j => prior m c k (ix2 (node t r) j) from funext (row_eq m c hp t k r)]
  unfold chosen
  refine selected _ (fun j => prior m c k (ix2 (node t r) j)) (ord (prior m c k) (node t r)) (ord_bijective _ _) (prior_nonneg m c hp k (node t r))
    (ord_anti (prior m c k) (node t r)) (orderly_row _ ho (node t r)) (fun hc => ⟨within m c (node t r), fun j => mem_within m c hp k (node t r) j, ?_⟩) j
  refine within_card m c hp (node t r) ?_
  refine le_of_eq_of_le (Finset.sum_congr rfl fun j _ => ?_) (count_le _ _ hc r)
  rw [gap_eq]

include hp in
/-- The kernel's third result is the reference's. -/
theorem end_picked (ho : ∀ k, orderly (prior m c k) = fun _ => 1#1) : (W4 m c main_v0_2 : Vec Ideal S3x4096x4096 .f32) = picked m c := by
  refine (W4_arr m c 4).trans ((region1 (V3 m) c).trans ?_)
  funext i
  obtain ⟨k, R, j, rfl⟩ : ∃ (k : Fin 3) (R j : Fin 4096), i = ix3 k R j := ⟨i 0, i 1, i 2, by
    funext b
    match b with
    | ⟨0, _⟩ => rfl
    | ⟨1, _⟩ => rfl
    | ⟨2, _⟩ => rfl⟩
  refine Eq.trans ?_ (picked_apply m c k R j).symm
  have hR : R = node (pointOf R) ⟨R.val % 128, Nat.mod_lt _ (by decide)⟩ := (rowAt_eq R).symm
  rw [hR]
  exact (glue_apply (adjAt (V3 m) c) (pointOf R) k ⟨R.val % 128, Nat.mod_lt _ (by decide)⟩ j).trans (point_eq m c hp (pointOf R) k _ j (ho k))

end Cert.KernelIdeal.Hand
-- ==== Proof.Agree.lean ====
/- The kernel's four results are the reference's. -/
module

public import proofs.«01_k».proof.Proof.Result
public import proofs.«01_k».proof.Proof.Gen.ReferenceIdeal.Run
public import proofs.«01_k».proof.Defs

@[expose] public section

set_option maxRecDepth 16384

noncomputable section

namespace Cert.KernelIdeal.Hand

open Idealize.ShloMosaic hiding ix1 ix2 ix3 addf_apply subf_apply mulf_apply maximumf_apply
open Idealize.ShloMosaic.TcCoe
open Idealize.SL.Sem
open Idealize.ShloMosaic.Pipeline Idealize.ShloMosaic.ValueIdx
open Cert.KernelIdeal Cert.KernelIdeal.Gen
open Cert.ReferenceIdeal.Read

open Cert.Scalars

variable (m : (ℓ : Loc nD τ sig) → Buf (Elt Ideal) ℓ) (c : Dev nD)

/-- The reference's second and fourth results. -/
def means : Vec Ideal S4096x3 .f32 := val_main_v25 (F := Ideal) (arg m c main_arg0) (arg m c main_arg2) (arg m c main_arg3) (arg m c main_arg4) (arg m c main_arg5) (arg m c main_arg6) (arg m c main_arg7) (arg m c main_arg8) (arg m c main_arg9) (arg m c main_arg10) (arg m c main_arg11)
def spreads : Vec Ideal S4096x3 .f32 := val_main_v29 (F := Ideal) (arg m c main_arg0) (arg m c main_arg2) (arg m c main_arg3) (arg m c main_arg4) (arg m c main_arg5) (arg m c main_arg6) (arg m c main_arg7) (arg m c main_arg8) (arg m c main_arg9) (arg m c main_arg13) (arg m c main_arg14)

section

variable (V0 : Valuation Cert.ReferenceIdeal.τ Cert.ReferenceIdeal.sig (Elt Ideal))

theorem read_21 (h0 : V0 (Proc.devRef .tc Cert.ReferenceIdeal.main_arg0) = arg m c main_arg0) (h2 : V0 (Proc.devRef .tc Cert.ReferenceIdeal.main_arg2) = arg m c main_arg2) (h3 : V0 (Proc.devRef .tc Cert.ReferenceIdeal.main_arg3) = arg m c main_arg3) (h4 : V0 (Proc.devRef .tc Cert.ReferenceIdeal.main_arg4) = arg m c main_arg4) (h5 : V0 (Proc.devRef .tc Cert.ReferenceIdeal.main_arg5) = arg m c main_arg5) (h6 : V0 (Proc.devRef .tc Cert.ReferenceIdeal.main_arg6) = arg m c main_arg6) (h7 : V0 (Proc.devRef .tc Cert.ReferenceIdeal.main_arg7) = arg m c main_arg7) (h8 : V0 (Proc.devRef .tc Cert.ReferenceIdeal.main_arg8) = arg m c main_arg8) (h9 : V0 (Proc.devRef .tc Cert.ReferenceIdeal.main_arg9) = arg m c main_arg9) :
    val_main_v21 (F := Ideal) (V0 (Proc.devRef .tc Cert.ReferenceIdeal.main_arg0)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9)) = feat m c := by
  rw [h0, h2, h3, h4, h5, h6, h7, h8, h9]
  rfl
theorem read_25 (h0 : V0 (Proc.devRef .tc Cert.ReferenceIdeal.main_arg0) = arg m c main_arg0) (h2 : V0 (Proc.devRef .tc Cert.ReferenceIdeal.main_arg2) = arg m c main_arg2) (h3 : V0 (Proc.devRef .tc Cert.ReferenceIdeal.main_arg3) = arg m c main_arg3) (h4 : V0 (Proc.devRef .tc Cert.ReferenceIdeal.main_arg4) = arg m c main_arg4) (h5 : V0 (Proc.devRef .tc Cert.ReferenceIdeal.main_arg5) = arg m c main_arg5) (h6 : V0 (Proc.devRef .tc Cert.ReferenceIdeal.main_arg6) = arg m c main_arg6) (h7 : V0 (Proc.devRef .tc Cert.ReferenceIdeal.main_arg7) = arg m c main_arg7) (h8 : V0 (Proc.devRef .tc Cert.ReferenceIdeal.main_arg8) = arg m c main_arg8) (h9 : V0 (Proc.devRef .tc Cert.ReferenceIdeal.main_arg9) = arg m c main_arg9) (h10 : V0 (Proc.devRef .tc Cert.ReferenceIdeal.main_arg10) = arg m c main_arg10) (h11 : V0 (Proc.devRef .tc Cert.ReferenceIdeal.main_arg11) = arg m c main_arg11) :
    val_main_v25 (F := Ideal) (V0 (Proc.devRef .tc Cert.ReferenceIdeal.main_arg0)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9)) (V0 (Proc.devRef .tc Cert.ReferenceIdeal.main_arg10)) (V0 (Proc.devRef .tc Cert.ReferenceIdeal.main_arg11)) = means m c := by
  rw [h0, h2, h3, h4, h5, h6, h7, h8, h9, h10, h11]
  rfl
theorem read_197 (h0 : V0 (Proc.devRef .tc Cert.ReferenceIdeal.main_arg0) = arg m c main_arg0) (h1 : V0 (Proc.devRef .tc Cert.ReferenceIdeal.main_arg1) = arg m c main_arg1) (h2 : V0 (Proc.devRef .tc Cert.ReferenceIdeal.main_arg2) = arg m c main_arg2) (h3 : V0 (Proc.devRef .tc Cert.ReferenceIdeal.main_arg3) = arg m c main_arg3) (h4 : V0 (Proc.devRef .tc Cert.ReferenceIdeal.main_arg4) = arg m c main_arg4) (h5 : V0 (Proc.devRef .tc Cert.ReferenceIdeal.main_arg5) = arg m c main_arg5) (h6 : V0 (Proc.devRef .tc Cert.ReferenceIdeal.main_arg6) = arg m c main_arg6) (h7 : V0 (Proc.devRef .tc Cert.ReferenceIdeal.main_arg7) = arg m c main_arg7) (h8 : V0 (Proc.devRef .tc Cert.ReferenceIdeal.main_arg8) = arg m c main_arg8) (h9 : V0 (Proc.devRef .tc Cert.ReferenceIdeal.main_arg9) = arg m c main_arg9) (h12 : V0 (Proc.devRef .tc Cert.ReferenceIdeal.main_arg12) = arg m c main_arg12) :
    val_main_v197 (F := Ideal) (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9)) (V0 (Proc.devRef .tc Cert.ReferenceIdeal.main_arg12)) = picked m c := by
  rw [h0, h1, h2, h3, h4, h5, h6, h7, h8, h9, h12]
  rfl
theorem read_29 (h0 : V0 (Proc.devRef .tc Cert.ReferenceIdeal.main_arg0) = arg m c main_arg0) (h2 : V0 (Proc.devRef .tc Cert.ReferenceIdeal.main_arg2) = arg m c main_arg2) (h3 : V0 (Proc.devRef .tc Cert.ReferenceIdeal.main_arg3) = arg m c main_arg3) (h4 : V0 (Proc.devRef .tc Cert.ReferenceIdeal.main_arg4) = arg m c main_arg4) (h5 : V0 (Proc.devRef .tc Cert.ReferenceIdeal.main_arg5) = arg m c main_arg5) (h6 : V0 (Proc.devRef .tc Cert.ReferenceIdeal.main_arg6) = arg m c main_arg6) (h7 : V0 (Proc.devRef .tc Cert.ReferenceIdeal.main_arg7) = arg m c main_arg7) (h8 : V0 (Proc.devRef .tc Cert.ReferenceIdeal.main_arg8) = arg m c main_arg8) (h9 : V0 (Proc.devRef .tc Cert.ReferenceIdeal.main_arg9) = arg m c main_arg9) (h13 : V0 (Proc.devRef .tc Cert.ReferenceIdeal.main_arg13) = arg m c main_arg13) (h14 : V0 (Proc.devRef .tc Cert.ReferenceIdeal.main_arg14) = arg m c main_arg14) :
    val_main_v29 (F := Ideal) (V0 (Proc.devRef .tc Cert.ReferenceIdeal.main_arg0)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9)) (V0 (Proc.devRef .tc Cert.ReferenceIdeal.main_arg13)) (V0 (Proc.devRef .tc Cert.ReferenceIdeal.main_arg14)) = spreads m c := by
  rw [h0, h2, h3, h4, h5, h6, h7, h8, h9, h13, h14]
  rfl

end

/-- The kernel ends with the reference's results. -/
theorem kernel_results (ρ : Dev nD → PrngReg) (hp : ∀ c i, ∃ q : ℝ, place m c i = (q : EReal)) (ho : ∀ c k, orderly (prior m c k) = fun _ => 1#1) :
    θ_run (defs (F := Ideal)) (onTc (τ := τ) (main (F := Ideal))) ⟨m, fun _ => 0, ρ⟩ (fun r => ∀ c : Dev nD,
      r.2.mem ((c.tc : Thread nD τ).loc main_v0_0) = feat m c
      ∧ r.2.mem ((c.tc : Thread nD τ).loc main_v0_1) = means m c
      ∧ r.2.mem ((c.tc : Thread nD τ).loc main_v0_2) = picked m c
      ∧ r.2.mem ((c.tc : Thread nD τ).loc main_v0_3) = spreads m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun s h c =>
    have k : ∀ a ∈ argRefs, ¬ (Proc.devRef .tc a : DevRef τ sig).isScoped → s.2.mem ((c.tc : Thread nD τ).loc a) = m ((c.tc : Thread nD τ).loc a) :=
      fun a ha hs => (h.1 c _ (mem_uc a hs)).trans (W4_args m c a ha)
    ⟨(h.1 c _ (mem_uc main_v0_0 (by decide))).trans (end_feat m c),
     (h.1 c _ (mem_uc main_v0_1 (by decide))).trans (end_first m c),
     (h.1 c _ (mem_uc main_v0_2 (by decide))).trans (end_picked m c (hp c) (ho c)),
     (h.1 c _ (mem_uc main_v0_3 (by decide))).trans (end_second m c),
     k main_arg0 (by decide) (by decide),
     k main_arg1 (by decide) (by decide),
     k main_arg2 (by decide) (by decide),
     k main_arg3 (by decide) (by decide),
     k main_arg4 (by decide) (by decide),
     k main_arg5 (by decide) (by decide),
     k main_arg6 (by decide) (by decide),
     k main_arg7 (by decide) (by decide),
     k main_arg8 (by decide) (by decide),
     k main_arg9 (by decide) (by decide),
     k main_arg10 (by decide) (by decide),
     k main_arg11 (by decide) (by decide),
     k main_arg12 (by decide) (by decide),
     k main_arg13 (by decide) (by decide),
     k main_arg14 (by decide) (by decide)⟩) (run m ρ)

theorem places_real (h : Cert.Pre_KernelIdeal_strict_top m) (c : Dev nD) (i) : ∃ q : ℝ, place m c i = (q : EReal) :=
  placed_real _ ((congrArg (fun t => t.1) (asked m c)).symm.trans (h c).1) i

theorem rows_orderly (h : Cert.Pre_KernelIdeal_strict_top m) (c : Dev nD) (k : Fin 3) : orderly (prior m c k) = fun _ => 1#1 := match k with
  | ⟨0, _⟩ => (congrArg (fun t => t.2.1) (asked m c)).symm.trans (h c).2.1
  | ⟨1, _⟩ => (congrArg (fun t => t.2.2.1) (asked m c)).symm.trans (h c).2.2.1
  | ⟨2, _⟩ => (congrArg (fun t => t.2.2.2) (asked m c)).symm.trans (h c).2.2.2

/-- Kernel and reference end with equal results. -/
theorem results_agree : Cert.algebraic_KernelIdeal_ReferenceIdeal_pre_strict_top := by
  intro m g m' g' hpre e
  refine ⟨fun c => feat m c, fun c => means m c, fun c => picked m c, fun c => spreads m c,
    kernel_results m g (places_real m hpre) (rows_orderly m hpre),
    (θ_run _ _ _).mono (fun s h c => ?_) (Cert.ReferenceIdeal.Value.run (F := Ideal) m' g')⟩
  obtain ⟨e0, e1, e2, e3, e4, e5, e6, e7, e8, e9, e10, e11, e12, e13, e14⟩ := e c
  obtain ⟨h0, h1, h2, h3, hk⟩ := h c
  have r0 := h0.trans ((val_main_v21_eq (F := Ideal) (StableHlo.launchContents m' c)).trans (read_21 m c (StableHlo.launchContents m' c) e0 e2 e3 e4 e5 e6 e7 e8 e9))
  have r1 := h1.trans ((val_main_v25_eq (F := Ideal) (StableHlo.launchContents m' c)).trans (read_25 m c (StableHlo.launchContents m' c) e0 e2 e3 e4 e5 e6 e7 e8 e9 e10 e11))
  have r2 := h2.trans ((val_main_v197_eq (F := Ideal) (StableHlo.launchContents m' c)).trans (read_197 m c (StableHlo.launchContents m' c) e0 e1 e2 e3 e4 e5 e6 e7 e8 e9 e12))
  have r3 := h3.trans ((val_main_v29_eq (F := Ideal) (StableHlo.launchContents m' c)).trans (read_29 m c (StableHlo.launchContents m' c) e0 e2 e3 e4 e5 e6 e7 e8 e9 e13 e14))
  exact ⟨r0, r1, r2, r3, hk⟩

end Cert.KernelIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_strict_top
public import proofs.«01_k».proof.Proof.RunKernel
public import proofs.«01_k».proof.Proof.RunKernelIdeal
public import proofs.«01_k».proof.Proof.Agree
public import Idealize.ShloMosaic.Adequacy
public import Idealize.ShloMosaic.Init
public import Idealize.ShloMosaic.Lib.Quiescent
public import Idealize.ShloMosaic.PureOps.IdealRules

@[expose] public section

noncomputable section

namespace Cert.Proof

open Idealize.ShloMosaic Idealize.ShloMosaic.TcCoe Idealize.SL.Sem

section reference

open Cert.ReferenceIdeal

/-- The reference ends with its arguments as launched; it has no semaphore. -/
theorem reference_kept (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run _ _ _).mono (fun s h => ⟨fun c => (h c).2.2.2.2, sem_eq_zero_of_no_sems rfl s.2⟩) (Cert.ReferenceIdeal.Value.run (F := Ideal) m ρ)

end reference

theorem claim : Cert.Claim := by
  refine ⟨Cert.Kernel.Gen.facts, Cert.KernelIdeal.Gen.facts, Cert.ReferenceIdeal.Gen.facts, Cert.Pre_strict_top.Gen.facts,
    fun m g _ => Cert.Kernel.Hand.arguments_kept (F := Bits) m g,
    fun m g _ => Cert.KernelIdeal.Hand.arguments_kept (F := Ideal) m g,
    fun m g _ => Cert.KernelIdeal.Hand.arguments_kept (F := Ideal) m g,
    fun m g _ => reference_kept m g,
    fun m g _ => reference_kept m g,
    ⟨IdealRules.named_const.statement Cert.KernelIdeal.κ "max_dist_sq" .f32 0x38D1B717#32 ((1 / 10000 : ℝ) : EReal) rfl,
     IdealRules.named_const.statement Cert.KernelIdeal.κ "neg_inv_ls" .f32 0xC326AAAB#32 ((-500 / 3 : ℝ) : EReal) rfl,
     IdealRules.named_const.statement Cert.KernelIdeal.κ "log_two" .f32 0x3F317218#32 ((Real.log 2 : ℝ) : EReal) rfl⟩, ?_⟩
  exact Cert.KernelIdeal.Hand.results_agree

end Cert.Proof

end
